-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x16384 : Shape := ⟨3, ![8, 1, 16384]⟩
abbrev S8192x16384 : Shape := ⟨2, ![8192, 16384]⟩
abbrev S8192 : Shape := ⟨1, ![8192]⟩
abbrev S8x16384 : Shape := ⟨2, ![8, 16384]⟩
abbrev S1x8192 : Shape := ⟨2, ![1, 8192]⟩
abbrev S8x8192 : Shape := ⟨2, ![8, 8192]⟩
abbrev S1024x4096 : Shape := ⟨2, ![1024, 4096]⟩
abbrev S1x1024 : Shape := ⟨2, ![1, 1024]⟩
abbrev S8x1024 : Shape := ⟨2, ![8, 1024]⟩
abbrev S32x65536 : Shape := ⟨2, ![32, 65536]⟩
abbrev S32x256 : Shape := ⟨2, ![32, 256]⟩
abbrev S8x128 : Shape := ⟨2, ![8, 128]⟩
abbrev S8x128x1 : Shape := ⟨3, ![8, 128, 1]⟩
abbrev S32x128 : Shape := ⟨2, ![32, 128]⟩
abbrev S1024x128 : Shape := ⟨2, ![1024, 128]⟩
abbrev S256x128 : Shape := ⟨2, ![256, 128]⟩
abbrev S128x256 : Shape := ⟨2, ![128, 256]⟩
abbrev S512x256 : Shape := ⟨2, ![512, 256]⟩
abbrev S32x512 : Shape := ⟨2, ![32, 512]⟩
abbrev S1x128 : Shape := ⟨2, ![1, 128]⟩
abbrev S8x1x8192 : Shape := ⟨3, ![8, 1, 8192]⟩

abbrev nBuf : Space → Nat
  | .hbm => 7
  | .vmem => 9
  | .smem => 0
  | _ => 0

abbrev bufTy : (tb : Table) → Fin (tcTables nBuf tb) → BufTy
  | .hbm, ⟨0, _⟩ => ⟨S8x1x16384, .bf16⟩
  | .hbm, ⟨1, _⟩ => ⟨S8192x16384, .i8⟩
  | .hbm, ⟨2, _⟩ => ⟨S8192, .f32⟩
  | .hbm, ⟨3, _⟩ => ⟨S8x16384, .bf16⟩
  | .hbm, ⟨4, _⟩ => ⟨S1x8192, .f32⟩
  | .hbm, ⟨5, _⟩ => ⟨S8x8192, .bf16⟩
  | .hbm, ⟨6, _⟩ => ⟨S8x1x8192, .bf16⟩
  | .local _ .vmem, ⟨0, _⟩ => ⟨S8x16384, .bf16⟩
  | .local _ .vmem, ⟨1, _⟩ => ⟨S1024x4096, .i8⟩
  | .local _ .vmem, ⟨2, _⟩ => ⟨S1024x4096, .i8⟩
  | .local _ .vmem, ⟨3, _⟩ => ⟨S1x1024, .f32⟩
  | .local _ .vmem, ⟨4, _⟩ => ⟨S1x1024, .f32⟩
  | .local _ .vmem, ⟨5, _⟩ => ⟨S8x1024, .bf16⟩
  | .local _ .vmem, ⟨6, _⟩ => ⟨S8x1024, .bf16⟩
  | .local _ .vmem, ⟨7, _⟩ => ⟨S32x65536, .bf16⟩
  | .local _ .vmem, ⟨8, _⟩ => ⟨S32x256, .f32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_137 : BitVec 32 := 0#32
  let c128_i32 : BitVec 32 := 128#32
  let v402 : BitVec 32 := Scalar.addi c0_i32_137 c128_i32
  let c1_i32 : BitVec 32 := 1#32
  ⟨c0_i32_137, v402, c1_i32⟩
def k0_mult1 (k0_t1 : Fin k0_t1_loop.trips) : BitVec 32 :=
  let c0_i32_137 : BitVec 32 := 0#32
  let c1_i32 : BitVec 32 := 1#32
  let arg8 : BitVec 32 := Scf.iv c0_i32_137 c1_i32 k0_t1
  let c128_i32_139 : BitVec 32 := 128#32
  let v403 : BitVec 32 := Scalar.muli arg8 c128_i32_139
  v403
def k0_off1 (k0_t1 : Fin k0_t1_loop.trips) : Fin 2 → Nat :=
  let c0_140 : Index := 0#32
  let c0_i32_137 : BitVec 32 := 0#32
  let c1_i32 : BitVec 32 := 1#32
  let arg8 : BitVec 32 := Scf.iv c0_i32_137 c1_i32 k0_t1
  let c128_i32_139 : BitVec 32 := 128#32
  let v403 : BitVec 32 := Scalar.muli arg8 c128_i32_139
  let v404 : BitVec 32 := v403
  let v405 : Index := Scalar.indexCast v404
  ![0, v405.toNat]
def k0_mult2 (k0_t1 : Fin k0_t1_loop.trips) : BitVec 32 :=
  let c0_i32_137 : BitVec 32 := 0#32
  let c1_i32 : BitVec 32 := 1#32
  let arg8 : BitVec 32 := Scf.iv c0_i32_137 c1_i32 k0_t1
  let c512_i32_181 : BitVec 32 := 512#32
  let v523 : BitVec 32 := Scalar.muli arg8 c512_i32_181
  let c0_i32_182 : BitVec 32 := 0#32
  let v524 : BitVec 32 := Scalar.addi v523 c0_i32_182
  v524
def k0_off2 (k0_t1 : Fin k0_t1_loop.trips) (c0_i32_182 : BitVec 32) : Fin 2 → Nat :=
  let c0_183 : Index := 0#32
  let c0_i32_137 : BitVec 32 := 0#32
  let c1_i32 : BitVec 32 := 1#32
  let arg8 : BitVec 32 := Scf.iv c0_i32_137 c1_i32 k0_t1
  let c512_i32_181 : BitVec 32 := 512#32
  let v523 : BitVec 32 := Scalar.muli arg8 c512_i32_181
  let v524 : BitVec 32 := Scalar.addi v523 c0_i32_182
  let v525 : BitVec 32 := v524
  let v528 : Index := Scalar.indexCast v525
  ![0, v528.toNat]
def k0_mult3 (k0_t1 : Fin k0_t1_loop.trips) : BitVec 32 :=
  let c0_i32_137 : BitVec 32 := 0#32
  let c1_i32 : BitVec 32 := 1#32
  let arg8 : BitVec 32 := Scf.iv c0_i32_137 c1_i32 k0_t1
  let c512_i32_225 : BitVec 32 := 512#32
  let v646 : BitVec 32 := Scalar.muli arg8 c512_i32_225
  let c128_i32_226 : BitVec 32 := 128#32
  let v647 : BitVec 32 := Scalar.addi v646 c128_i32_226
  v647
def k0_mult4 (k0_t1 : Fin k0_t1_loop.trips) : BitVec 32 :=
  let c0_i32_137 : BitVec 32 := 0#32
  let c1_i32 : BitVec 32 := 1#32
  let arg8 : BitVec 32 := Scf.iv c0_i32_137 c1_i32 k0_t1
  let c512_i32_269 : BitVec 32 := 512#32
  let v769 : BitVec 32 := Scalar.muli arg8 c512_i32_269
  let c256_i32 : BitVec 32 := 256#32
  let v770 : BitVec 32 := Scalar.addi v769 c256_i32
  v770
def k0_mult5 (k0_t1 : Fin k0_t1_loop.trips) : BitVec 32 :=
  let c0_i32_137 : BitVec 32 := 0#32
  let c1_i32 : BitVec 32 := 1#32
  let arg8 : BitVec 32 := Scf.iv c0_i32_137 c1_i32 k0_t1
  let c512_i32_312 : BitVec 32 := 512#32
  let v892 : BitVec 32 := Scalar.muli arg8 c512_i32_312
  let c384_i32 : BitVec 32 := 384#32
  let v893 : BitVec 32 := Scalar.addi v892 c384_i32
  v893
def k0_mult6 (i : grid0.Coords) : BitVec 32 :=
  let arg1 : BitVec 32 := BitVec.ofNat 32 (i 1).val
  let c16384_i32 : BitVec 32 := 16384#32
  let v13 : BitVec 32 := Scalar.muli arg1 c16384_i32
  let c0_i32_5 : BitVec 32 := 0#32
  let v14 : BitVec 32 := Scalar.addi v13 c0_i32_5
  v14
def k0_off3 (i : grid0.Coords) (c0_i32_5 : BitVec 32) : Fin 2 → Nat :=
  let c0_6 : Index := 0#32
  let arg1 : BitVec 32 := BitVec.ofNat 32 (i 1).val
  let c16384_i32 : BitVec 32 := 16384#32
  let v13 : BitVec 32 := Scalar.muli arg1 c16384_i32
  let v14 : BitVec 32 := Scalar.addi v13 c0_i32_5
  let v15 : BitVec 32 := v14
  let v16 : Index := Scalar.indexCast v15
  ![0, v16.toNat]
def k0_mult7 (i : grid0.Coords) : BitVec 32 :=
  let arg1 : BitVec 32 := BitVec.ofNat 32 (i 1).val
  let c16384_i32_9 : BitVec 32 := 16384#32
  let v25 : BitVec 32 := Scalar.muli arg1 c16384_i32_9
  let c512_i32 : BitVec 32 := 512#32
  let v26 : BitVec 32 := Scalar.addi v25 c512_i32
  v26
def k0_mult8 (i : grid0.Coords) : BitVec 32 :=
  let arg1 : BitVec 32 := BitVec.ofNat 32 (i 1).val
  let c16384_i32_13 : BitVec 32 := 16384#32
  let v37 : BitVec 32 := Scalar.muli arg1 c16384_i32_13
  let c1024_i32 : BitVec 32 := 1024#32
  let v38 : BitVec 32 := Scalar.addi v37 c1024_i32
  v38
def k0_mult9 (i : grid0.Coords) : BitVec 32 :=
  let arg1 : BitVec 32 := BitVec.ofNat 32 (i 1).val
  let c16384_i32_17 : BitVec 32 := 16384#32
  let v49 : BitVec 32 := Scalar.muli arg1 c16384_i32_17
  let c1536_i32 : BitVec 32 := 1536#32
  let v50 : BitVec 32 := Scalar.addi v49 c1536_i32
  v50
def k0_mult10 (i : grid0.Coords) : BitVec 32 :=
  let arg1 : BitVec 32 := BitVec.ofNat 32 (i 1).val
  let c16384_i32_21 : BitVec 32 := 16384#32
  let v61 : BitVec 32 := Scalar.muli arg1 c16384_i32_21
  let c2048_i32 : BitVec 32 := 2048#32
  let v62 : BitVec 32 := Scalar.addi v61 c2048_i32
  v62
def k0_mult11 (i : grid0.Coords) : BitVec 32 :=
  let arg1 : BitVec 32 := BitVec.ofNat 32 (i 1).val
  let c16384_i32_25 : BitVec 32 := 16384#32
  let v73 : BitVec 32 := Scalar.muli arg1 c16384_i32_25
  let c2560_i32 : BitVec 32 := 2560#32
  let v74 : BitVec 32 := Scalar.addi v73 c2560_i32
  v74
def k0_mult12 (i : grid0.Coords) : BitVec 32 :=
  let arg1 : BitVec 32 := BitVec.ofNat 32 (i 1).val
  let c16384_i32_29 : BitVec 32 := 16384#32
  let v85 : BitVec 32 := Scalar.muli arg1 c16384_i32_29
  let c3072_i32 : BitVec 32 := 3072#32
  let v86 : BitVec 32 := Scalar.addi v85 c3072_i32
  v86
def k0_mult13 (i : grid0.Coords) : BitVec 32 :=
  let arg1 : BitVec 32 := BitVec.ofNat 32 (i 1).val
  let c16384_i32_33 : BitVec 32 := 16384#32
  let v97 : BitVec 32 := Scalar.muli arg1 c16384_i32_33
  let c3584_i32 : BitVec 32 := 3584#32
  let v98 : BitVec 32 := Scalar.addi v97 c3584_i32
  v98
def k0_mult14 (i : grid0.Coords) : BitVec 32 :=
  let arg1 : BitVec 32 := BitVec.ofNat 32 (i 1).val
  let c16384_i32_37 : BitVec 32 := 16384#32
  let v109 : BitVec 32 := Scalar.muli arg1 c16384_i32_37
  let c4096_i32 : BitVec 32 := 4096#32
  let v110 : BitVec 32 := Scalar.addi v109 c4096_i32
  v110
def k0_mult15 (i : grid0.Coords) : BitVec 32 :=
  let arg1 : BitVec 32 := BitVec.ofNat 32 (i 1).val
  let c16384_i32_41 : BitVec 32 := 16384#32
  let v121 : BitVec 32 := Scalar.muli arg1 c16384_i32_41
  let c4608_i32 : BitVec 32 := 4608#32
  let v122 : BitVec 32 := Scalar.addi v121 c4608_i32
  v122
def k0_mult16 (i : grid0.Coords) : BitVec 32 :=
  let arg1 : BitVec 32 := BitVec.ofNat 32 (i 1).val
  let c16384_i32_45 : BitVec 32 := 16384#32
  let v133 : BitVec 32 := Scalar.muli arg1 c16384_i32_45
  let c5120_i32 : BitVec 32 := 5120#32
  let v134 : BitVec 32 := Scalar.addi v133 c5120_i32
  v134
def k0_mult17 (i : grid0.Coords) : BitVec 32 :=
  let arg1 : BitVec 32 := BitVec.ofNat 32 (i 1).val
  let c16384_i32_49 : BitVec 32 := 16384#32
  let v145 : BitVec 32 := Scalar.muli arg1 c16384_i32_49
  let c5632_i32 : BitVec 32 := 5632#32
  let v146 : BitVec 32 := Scalar.addi v145 c5632_i32
  v146
def k0_mult18 (i : grid0.Coords) : BitVec 32 :=
  let arg1 : BitVec 32 := BitVec.ofNat 32 (i 1).val
  let c16384_i32_53 : BitVec 32 := 16384#32
  let v157 : BitVec 32 := Scalar.muli arg1 c16384_i32_53
  let c6144_i32 : BitVec 32 := 6144#32
  let v158 : BitVec 32 := Scalar.addi v157 c6144_i32
  v158
def k0_mult19 (i : grid0.Coords) : BitVec 32 :=
  let arg1 : BitVec 32 := BitVec.ofNat 32 (i 1).val
  let c16384_i32_57 : BitVec 32 := 16384#32
  let v169 : BitVec 32 := Scalar.muli arg1 c16384_i32_57
  let c6656_i32 : BitVec 32 := 6656#32
  let v170 : BitVec 32 := Scalar.addi v169 c6656_i32
  v170
def k0_mult20 (i : grid0.Coords) : BitVec 32 :=
  let arg1 : BitVec 32 := BitVec.ofNat 32 (i 1).val
  let c16384_i32_61 : BitVec 32 := 16384#32
  let v181 : BitVec 32 := Scalar.muli arg1 c16384_i32_61
  let c7168_i32 : BitVec 32 := 7168#32
  let v182 : BitVec 32 := Scalar.addi v181 c7168_i32
  v182
def k0_mult21 (i : grid0.Coords) : BitVec 32 :=
  let arg1 : BitVec 32 := BitVec.ofNat 32 (i 1).val
  let c16384_i32_65 : BitVec 32 := 16384#32
  let v193 : BitVec 32 := Scalar.muli arg1 c16384_i32_65
  let c7680_i32 : BitVec 32 := 7680#32
  let v194 : BitVec 32 := Scalar.addi v193 c7680_i32
  v194
def k0_mult22 (i : grid0.Coords) : BitVec 32 :=
  let arg1 : BitVec 32 := BitVec.ofNat 32 (i 1).val
  let c16384_i32_69 : BitVec 32 := 16384#32
  let v205 : BitVec 32 := Scalar.muli arg1 c16384_i32_69
  let c8192_i32 : BitVec 32 := 8192#32
  let v206 : BitVec 32 := Scalar.addi v205 c8192_i32
  v206
def k0_mult23 (i : grid0.Coords) : BitVec 32 :=
  let arg1 : BitVec 32 := BitVec.ofNat 32 (i 1).val
  let c16384_i32_73 : BitVec 32 := 16384#32
  let v217 : BitVec 32 := Scalar.muli arg1 c16384_i32_73
  let c8704_i32 : BitVec 32 := 8704#32
  let v218 : BitVec 32 := Scalar.addi v217 c8704_i32
  v218
def k0_mult24 (i : grid0.Coords) : BitVec 32 :=
  let arg1 : BitVec 32 := BitVec.ofNat 32 (i 1).val
  let c16384_i32_77 : BitVec 32 := 16384#32
  let v229 : BitVec 32 := Scalar.muli arg1 c16384_i32_77
  let c9216_i32 : BitVec 32 := 9216#32
  let v230 : BitVec 32 := Scalar.addi v229 c9216_i32
  v230
def k0_mult25 (i : grid0.Coords) : BitVec 32 :=
  let arg1 : BitVec 32 := BitVec.ofNat 32 (i 1).val
  let c16384_i32_81 : BitVec 32 := 16384#32
  let v241 : BitVec 32 := Scalar.muli arg1 c16384_i32_81
  let c9728_i32 : BitVec 32 := 9728#32
  let v242 : BitVec 32 := Scalar.addi v241 c9728_i32
  v242
def k0_mult26 (i : grid0.Coords) : BitVec 32 :=
  let arg1 : BitVec 32 := BitVec.ofNat 32 (i 1).val
  let c16384_i32_85 : BitVec 32 := 16384#32
  let v253 : BitVec 32 := Scalar.muli arg1 c16384_i32_85
  let c10240_i32 : BitVec 32 := 10240#32
  let v254 : BitVec 32 := Scalar.addi v253 c10240_i32
  v254
def k0_mult27 (i : grid0.Coords) : BitVec 32 :=
  let arg1 : BitVec 32 := BitVec.ofNat 32 (i 1).val
  let c16384_i32_89 : BitVec 32 := 16384#32
  let v265 : BitVec 32 := Scalar.muli arg1 c16384_i32_89
  let c10752_i32 : BitVec 32 := 10752#32
  let v266 : BitVec 32 := Scalar.addi v265 c10752_i32
  v266
def k0_mult28 (i : grid0.Coords) : BitVec 32 :=
  let arg1 : BitVec 32 := BitVec.ofNat 32 (i 1).val
  let c16384_i32_93 : BitVec 32 := 16384#32
  let v277 : BitVec 32 := Scalar.muli arg1 c16384_i32_93
  let c11264_i32 : BitVec 32 := 11264#32
  let v278 : BitVec 32 := Scalar.addi v277 c11264_i32
  v278
def k0_mult29 (i : grid0.Coords) : BitVec 32 :=
  let arg1 : BitVec 32 := BitVec.ofNat 32 (i 1).val
  let c16384_i32_97 : BitVec 32 := 16384#32
  let v289 : BitVec 32 := Scalar.muli arg1 c16384_i32_97
  let c11776_i32 : BitVec 32 := 11776#32
  let v290 : BitVec 32 := Scalar.addi v289 c11776_i32
  v290
def k0_mult30 (i : grid0.Coords) : BitVec 32 :=
  let arg1 : BitVec 32 := BitVec.ofNat 32 (i 1).val
  let c16384_i32_101 : BitVec 32 := 16384#32
  let v301 : BitVec 32 := Scalar.muli arg1 c16384_i32_101
  let c12288_i32 : BitVec 32 := 12288#32
  let v302 : BitVec 32 := Scalar.addi v301 c12288_i32
  v302
def k0_mult31 (i : grid0.Coords) : BitVec 32 :=
  let arg1 : BitVec 32 := BitVec.ofNat 32 (i 1).val
  let c16384_i32_105 : BitVec 32 := 16384#32
  let v313 : BitVec 32 := Scalar.muli arg1 c16384_i32_105
  let c12800_i32 : BitVec 32 := 12800#32
  let v314 : BitVec 32 := Scalar.addi v313 c12800_i32
  v314
def k0_mult32 (i : grid0.Coords) : BitVec 32 :=
  let arg1 : BitVec 32 := BitVec.ofNat 32 (i 1).val
  let c16384_i32_109 : BitVec 32 := 16384#32
  let v325 : BitVec 32 := Scalar.muli arg1 c16384_i32_109
  let c13312_i32 : BitVec 32 := 13312#32
  let v326 : BitVec 32 := Scalar.addi v325 c13312_i32
  v326
def k0_mult33 (i : grid0.Coords) : BitVec 32 :=
  let arg1 : BitVec 32 := BitVec.ofNat 32 (i 1).val
  let c16384_i32_113 : BitVec 32 := 16384#32
  let v337 : BitVec 32 := Scalar.muli arg1 c16384_i32_113
  let c13824_i32 : BitVec 32 := 13824#32
  let v338 : BitVec 32 := Scalar.addi v337 c13824_i32
  v338
def k0_mult34 (i : grid0.Coords) : BitVec 32 :=
  let arg1 : BitVec 32 := BitVec.ofNat 32 (i 1).val
  let c16384_i32_117 : BitVec 32 := 16384#32
  let v349 : BitVec 32 := Scalar.muli arg1 c16384_i32_117
  let c14336_i32 : BitVec 32 := 14336#32
  let v350 : BitVec 32 := Scalar.addi v349 c14336_i32
  v350
def k0_mult35 (i : grid0.Coords) : BitVec 32 :=
  let arg1 : BitVec 32 := BitVec.ofNat 32 (i 1).val
  let c16384_i32_121 : BitVec 32 := 16384#32
  let v361 : BitVec 32 := Scalar.muli arg1 c16384_i32_121
  let c14848_i32 : BitVec 32 := 14848#32
  let v362 : BitVec 32 := Scalar.addi v361 c14848_i32
  v362
def k0_mult36 (i : grid0.Coords) : BitVec 32 :=
  let arg1 : BitVec 32 := BitVec.ofNat 32 (i 1).val
  let c16384_i32_125 : BitVec 32 := 16384#32
  let v373 : BitVec 32 := Scalar.muli arg1 c16384_i32_125
  let c15360_i32 : BitVec 32 := 15360#32
  let v374 : BitVec 32 := Scalar.addi v373 c15360_i32
  v374
def k0_mult37 (i : grid0.Coords) : BitVec 32 :=
  let arg1 : BitVec 32 := BitVec.ofNat 32 (i 1).val
  let c16384_i32_129 : BitVec 32 := 16384#32
  let v385 : BitVec 32 := Scalar.muli arg1 c16384_i32_129
  let c15872_i32 : BitVec 32 := 15872#32
  let v386 : BitVec 32 := Scalar.addi v385 c15872_i32
  v386
def k0_cond3 (i : grid0.Coords) : BitVec 1 :=
  let arg1 : BitVec 32 := BitVec.ofNat 32 (i 1).val
  let c3_i32 : BitVec 32 := 3#32
  let v398 : BitVec 1 := Scalar.cmpi .eq arg1 c3_i32
  let v399 : BitVec 32 := Scalar.extui v398
  let c0_i32_136 : BitVec 32 := 0#32
  let v400 : BitVec 1 := Scalar.cmpi .ne v399 c0_i32_136
  v400

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8x1x16384 : Shape := ⟨3, ![8, 1, 16384]⟩
abbrev S8192x16384 : Shape := ⟨2, ![8192, 16384]⟩
abbrev S8192 : Shape := ⟨1, ![8192]⟩
abbrev S8x16384 : Shape := ⟨2, ![8, 16384]⟩
abbrev S1x8192 : Shape := ⟨2, ![1, 8192]⟩
abbrev S8x8192 : Shape := ⟨2, ![8, 8192]⟩
abbrev S8x1x8192 : Shape := ⟨3, ![8, 1, 8192]⟩

abbrev nBuf : Space → Nat
  | .hbm => 7
  | .vmem => 4
  | .smem => 0
  | _ => 0

abbrev bufTy : (tb : Table) → Fin (tcTables nBuf tb) → BufTy
  | .hbm, ⟨0, _⟩ => ⟨S8x1x16384, .bf16⟩
  | .hbm, ⟨1, _⟩ => ⟨S8192x16384, .i8⟩
  | .hbm, ⟨2, _⟩ => ⟨S8192, .f32⟩
  | .hbm, ⟨3, _⟩ => ⟨S8x16384, .bf16⟩
  | .hbm, ⟨4, _⟩ => ⟨S1x8192, .f32⟩
  | .hbm, ⟨5, _⟩ => ⟨S8x8192, .bf16⟩
  | .hbm, ⟨6, _⟩ => ⟨S8x1x8192, .bf16⟩
  | .local _ .vmem, ⟨0, _⟩ => ⟨S8x16384, .bf16⟩
  | .local _ .vmem, ⟨1, _⟩ => ⟨S8192x16384, .i8⟩
  | .local _ .vmem, ⟨2, _⟩ => ⟨S1x8192, .f32⟩
  | .local _ .vmem, ⟨3, _⟩ => ⟨S8x8192, .bf16⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x16384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelIdeal.Lanes.lean ====
/- The lane arithmetic of the kernel, for vectors of 8 rows by 128 lanes: a lane divided by four, a lane modulo four, a gather
   of lanes `b + lane / 4`, and what the two places that use them compute: a group of 128 columns of the expanded activations,
   and a group of 128 columns of the output. -/
module

public import proofs.«01_k».proof.Proof.Gen.KernelIdeal.Skeleton
public import Idealize.ShloMosaic.Lib.ValueIdxCore
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx

variable {F : FTy → Type} [FloatOps F]

/-- The lane number at every place. -/
def lane : IVec S8x128 32 := iota .tc S8x128 32 [1] iota_S8x128_d1_w32

/-- The lane number divided by four, rounded down, as the kernel computes it. -/
def laneDiv : IVec S8x128 32 :=
  select
    (andi
      (cmpi .ne
        (subi (extui 32 (cmpi .sgt lane (broadcast S8x128 0#32)) natLt_1_32) (extui 32 (cmpi .slt lane (broadcast S8x128 0#32)) natLt_1_32))
        (broadcast S8x128 (Scalar.subi (Scalar.extui (Scalar.cmpi .sgt 4#32 0#32)) (Scalar.extui (Scalar.cmpi .slt 4#32 0#32)))))
      (cmpi .ne (remsi lane (broadcast S8x128 4#32)) (broadcast S8x128 0#32)))
    (subi (divsi lane (broadcast S8x128 4#32)) (broadcast S8x128 1#32))
    (divsi lane (broadcast S8x128 4#32))

/-- The divisor of the remainder, as the kernel computes it: four. -/
def four : BitVec 32 := Scalar.select (Scalar.cmpi .eq 4#32 0#32) 1#32 4#32

/-- The lane number modulo four, as the kernel computes it. -/
def laneMod : IVec S8x128 32 :=
  select
    (andi
      (xori (cmpi .slt (remsi lane (broadcast S8x128 four)) (broadcast S8x128 0#32))
        (broadcastTo S8x128 (broadcast S8x128 (Scalar.cmpi .slt four 0#32)) broadcasts_S8x128_S8x128))
      (cmpi .ne (remsi lane (broadcast S8x128 four)) (broadcast S8x128 0#32)))
    (addi (remsi lane (broadcast S8x128 four)) (broadcast S8x128 four))
    (remsi lane (broadcast S8x128 four))

/-- The lanes `b + lane / 4`, a negative one moved up by 128, as the kernel computes them. -/
def srcLane (b : BitVec 32) : IVec S8x128 32 :=
  shapeCast S8x128
    (shapeCast S8x128x1
      (select (cmpi .slt (addi (broadcast S8x128 b) laneDiv) (broadcast S8x128 0#32))
        (addi (addi (broadcast S8x128 b) laneDiv) (broadcast S8x128 128#32))
        (addi (broadcast S8x128 b) laneDiv))
      shapeCasts_S8x128_S8x128x1)
    shapeCasts_S8x128x1_S8x128

/-- The lanes `b + lane / 4` of `a`. -/
def pick (b : BitVec 32) (a : FVec F S8x128 .f32) : FVec F S8x128 .f32 := dynamicGather 1 a (srcLane b)

/-- All zeros. -/
def zeros : FVec F S8x128 .f32 := broadcast S8x128 (Scalar.ofBits .f32 0x00000000#32)

/-- The places whose lane is `j` modulo four. -/
def laneIs (j : BitVec 32) : IVec S8x128 1 := cmpi .eq laneMod (broadcast S8x128 j)

/-- One group of 128 columns of the expanded activations, from the 128 columns `v` of the activations: four bands of 8 rows, band
    `j` keeping the lanes that are `j` modulo four. -/
def expandGroup (b : BitVec 32) (v : Vec F S8x128 .bf16) : FVec F S32x128 .bf16 :=
  shapeCast S32x128
    (truncf .bf16
      (concatenate S32x128 0
        [⟨S8x128, select (laneIs 0#32) (pick b (extf .f32 (shapeCast S8x128 v shapeCasts_S8x128_S8x128) bitsLt_bf16_f32)) zeros⟩,
          ⟨S8x128, select (laneIs 1#32) (pick b (extf .f32 (shapeCast S8x128 v shapeCasts_S8x128_S8x128) bitsLt_bf16_f32)) zeros⟩,
          ⟨S8x128, select (laneIs 2#32) (pick b (extf .f32 (shapeCast S8x128 v shapeCasts_S8x128_S8x128) bitsLt_bf16_f32)) zeros⟩,
          ⟨S8x128, select (laneIs 3#32) (pick b (extf .f32 (shapeCast S8x128 v shapeCasts_S8x128_S8x128) bitsLt_bf16_f32)) zeros⟩]
        concatenates_S8x128_S8x128_S8x128_S8x128_S32x128_d0)
      bitsLt_bf16_f32)
    shapeCasts_S32x128_S32x128

/-- One group of 128 columns of the output, from the four bands of the accumulator and the scales. -/
def outGroup (b : BitVec 32) (a0 a1 a2 a3 : Vec F S8x128 .f32) (s : Vec F S1x128 .f32) : FVec F S8x128 .bf16 :=
  truncf .bf16
    (mulf
      (select (laneIs 3#32) (pick b a3) (select (laneIs 2#32) (pick b a2) (select (laneIs 1#32) (pick b a1) (select (laneIs 0#32) (pick b a0) zeros))))
      (broadcastTo S8x128 (shapeCast S1x128 s shapeCasts_S1x128_S1x128) broadcasts_S1x128_S8x128))
    bitsLt_bf16_f32

/-! ## What they are, place by place -/

/-- The remainder is the lane modulo four. -/
theorem laneMod_eq (y : S8x128.Idx) : laneMod y = BitVec.ofNat 32 ((y 1).val % 4) :=
  (by decide +kernel : ∀ l : Fin 128, laneMod (ix2 (0 : Fin 8) l) = BitVec.ofNat 32 (l.val % 4)) (y 1)

/-- The gathered lane is `b + lane / 4`. -/
theorem srcLane_eq (c : Fin 4) (y : S8x128.Idx) : (srcLane (BitVec.ofNat 32 (32 * c.val)) y).toNat = 32 * c.val + (y 1).val / 4 := by
  rw [eq_ix2 y]
  exact (by decide +kernel : ∀ (c : Fin 4) (p : Fin 8) (l : Fin 128), (srcLane (BitVec.ofNat 32 (32 * c.val)) (ix2 p l)).toNat = 32 * c.val + l.val / 4) c (y 0) (y 1)

/-- A condition on the lane is the arithmetic one. -/
theorem laneIs_eq (j : Fin 4) (y : S8x128.Idx) : laneIs (BitVec.ofNat 32 j.val) y = 1#1 ↔ (y 1).val % 4 = j.val :=
  (by decide +kernel : ∀ (j : Fin 4) (l : Fin 128), laneIs (BitVec.ofNat 32 j.val) (ix2 (0 : Fin 8) l) = 1#1 ↔ l.val % 4 = j.val) j (y 1)

/-- The gather reads the lane `b + lane / 4` of the same row. -/
theorem pick_eq (c : Fin 4) (a : FVec F S8x128 .f32) (y : S8x128.Idx) :
    pick (BitVec.ofNat 32 (32 * c.val)) a y = a (ix2 (y 0) ⟨32 * c.val + (y 1).val / 4, by have := idx2_lt1 y; omega⟩) := by
  show a _ = a _
  congr 1
  funext b
  match b with
  | ⟨0, _⟩ => rfl
  | ⟨1, _⟩ =>
    apply Fin.ext
    show (srcLane _ y).toNat % 128 = _
    rw [srcLane_eq]
    have := idx2_lt1 y
    show (32 * c.val + (y 1).val / 4) % 128 = 32 * c.val + (y 1).val / 4
    omega

/-- A place of a group of the expanded activations: row `8 j + p`, lane `l` holds row `p`, column `32 c + l / 4` of the group's
    activations when `l` is `j` modulo four, and zero otherwise. -/
theorem expandGroup_eq (c : Fin 4) (v : Vec F S8x128 .bf16) (y : S32x128.Idx) :
    expandGroup (BitVec.ofNat 32 (32 * c.val)) v y
      = if (y 1).val % 4 = (y 0).val / 8 then
          FloatOps.truncf .bf16 bitsLt_bf16_f32 (FloatOps.extf .f32 bitsLt_bf16_f32
            (v (ix2 ⟨(y 0).val % 8, by omega⟩ ⟨32 * c.val + (y 1).val / 4, by have := idx2_lt1 y; omega⟩)))
        else FloatOps.truncf .bf16 bitsLt_bf16_f32 (Scalar.ofBits .f32 0x00000000#32) := by
  have h0 := idx2_lt0 y
  have h1 := idx2_lt1 y
  unfold expandGroup
  rw [shapeCast_self, shapeCast_self]
  show FloatOps.truncf .bf16 bitsLt_bf16_f32 (concatenate S32x128 0 _ _ y) = _
  have key := concatenate_ofFn_apply (t := S32x128) (s₁ := S8x128) 0
    (fun n : Fin 4 => select (laneIs (BitVec.ofNat 32 n.val)) (pick (BitVec.ofNat 32 (32 * c.val)) (extf .f32 v bitsLt_bf16_f32)) (zeros (F := F)))
    concatenates_S8x128_S8x128_S8x128_S8x128_S32x128_d0 rfl 8 rfl y ⟨(y 0).val / 8, by omega⟩ rfl
    (ix2 ⟨(y 0).val % 8, by omega⟩ (y 1)) rfl (fun b hb => by
      match b, hb with
      | ⟨0, _⟩, hb => exact absurd rfl hb
      | ⟨1, _⟩, _ => rfl)
  refine (congrArg _ key).trans ?_
  show FloatOps.truncf .bf16 bitsLt_bf16_f32 (if laneIs _ _ = 1#1 then _ else _) = _
  by_cases h : (y 1).val % 4 = (y 0).val / 8
  · rw [if_pos ((laneIs_eq ⟨(y 0).val / 8, by omega⟩ _).mpr h), if_pos h, pick_eq]
    rfl
  · rw [if_neg (fun e => h ((laneIs_eq ⟨(y 0).val / 8, by omega⟩ _).mp e)), if_neg h]
    rfl

/-- A place of a group of the output: row `t`, lane `l` is band `l % 4` of the accumulator at row `t`, lane `32 c + l / 4`, times the
    scale of lane `l`. -/
theorem outGroup_eq (c : Fin 4) (a : Fin 4 → Vec F S8x128 .f32) (s : Vec F S1x128 .f32) (y : S8x128.Idx) :
    outGroup (BitVec.ofNat 32 (32 * c.val)) (a 0) (a 1) (a 2) (a 3) s y
      = FloatOps.truncf .bf16 bitsLt_bf16_f32 (FloatOps.mulf
          (a ⟨(y 1).val % 4, by omega⟩ (ix2 (y 0) ⟨32 * c.val + (y 1).val / 4, by have := idx2_lt1 y; omega⟩))
          (s (ix2 0 (y 1)))) := by
  unfold outGroup
  rw [shapeCast_self]
  have hs : broadcastTo S8x128 s broadcasts_S1x128_S8x128 y = s (ix2 0 (y 1)) := congrArg s (funext fun b => by
    match b with
    | ⟨0, _⟩ => rfl
    | ⟨1, _⟩ => rfl)
  show FloatOps.truncf .bf16 bitsLt_bf16_f32 (FloatOps.mulf
    (if laneIs 3#32 y = 1#1 then pick _ (a 3) y else if laneIs 2#32 y = 1#1 then pick _ (a 2) y
      else if laneIs 1#32 y = 1#1 then pick _ (a 1) y else if laneIs 0#32 y = 1#1 then pick _ (a 0) y else _) (broadcastTo S8x128 s _ y)) = _
  rw [hs]
  simp only [pick_eq]
  have e0 := laneIs_eq 0 y
  have e1 := laneIs_eq 1 y
  have e2 := laneIs_eq 2 y
  have e3 := laneIs_eq 3 y
  have h4 : (y 1).val % 4 < 4 := by omega
  obtain ⟨m, hm⟩ : ∃ m : Fin 4, m.val = (y 1).val % 4 := ⟨⟨_, h4⟩, rfl⟩
  have hm' : (⟨(y 1).val % 4, h4⟩ : Fin 4) = m := Fin.ext hm.symm
  rw [hm']
  rw [← hm] at e0 e1 e2 e3
  change laneIs 0#32 y = 1#1 ↔ m.val = 0 at e0
  change laneIs 1#32 y = 1#1 ↔ m.val = 1 at e1
  change laneIs 2#32 y = 1#1 ↔ m.val = 2 at e2
  change laneIs 3#32 y = 1#1 ↔ m.val = 3 at e3
  simp only [e0, e1, e2, e3]
  match m with
  | ⟨0, _⟩ => rfl
  | ⟨1, _⟩ => rfl
  | ⟨2, _⟩ => rfl
  | ⟨3, _⟩ => rfl

end Cert.KernelIdeal.Run

end
-- ==== Proof.KernelIdeal.Points.lean ====
/- The kernel's grid points: when each of its three conditionals is taken, where the output window is written back, and
   the buffers a point's run is stated over. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditionals -/

/-- The one-time expansion of the activations runs. -/
abbrev condExpand (i : grid0.Coords) : Prop := k0_cond1 i = 1#1
/-- The accumulator is cleared. -/
abbrev condClear (i : grid0.Coords) : Prop :=
  (Scalar.cmpi .ne (Scalar.extui (Scalar.cmpi .eq (BitVec.ofNat 32 (i 1).val) 0#32)) 0#32) = 1#1
/-- The accumulator is scaled and stored into the output. -/
abbrev condStore (i : grid0.Coords) : Prop := k0_cond3 i = 1#1

/-- The expansion runs at the first point only. -/
theorem condExpand_iff : ∀ t : Fin cfg0.N, condExpand (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [condExpand, k0_cond1, e0, e1]
    word_cmp
   : ∀ t : Fin grid0.N, condExpand (grid0.coords t) ↔ t.val % 32 = 0)

/-- The accumulator is cleared at the points ≡ 0 (mod 4). -/
theorem condClear_iff : ∀ t : Fin cfg0.N, condClear (grid0.coords t) ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [condClear, e1]
    word_cmp
   : ∀ t : Fin grid0.N, condClear (grid0.coords t) ↔ t.val % 4 = 0)

/-- The output is stored at the points ≡ 3 (mod 4). -/
theorem condStore_iff : ∀ t : Fin cfg0.N, condStore (grid0.coords t) ↔ t.val % 4 = 3 :=
  (fun t => by
    have ht : t.val < 32 := Nat.lt_of_lt_of_eq t.isLt N_0
    have e1 : (grid0.coords t 1).val = t.val / 1 % 4 := Pipeline.Grid.coords_val t 1 (by decide) rfl
    simp only [condStore, k0_cond3, e1]
    word_cmp
   : ∀ t : Fin grid0.N, condStore (grid0.coords t) ↔ t.val % 4 = 3)

/-! ## The buffers -/

/-- Each window's current staging memref at point `t`, and its wholeness. -/
abbrev ms0 (t : Fin cfg0.N) : Memref sig .tc .vmem S8x16384 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x4096 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .bf16 := win0_3.stage (cfg0.slots t 3)
abbrev hs3 (t : Fin cfg0.N) : (ms3 t).IsWhole := hstage0_3 ((cfg0.slots t 3).cast nbuf0_3)
/-- The expanded activations' buffer. -/
abbrev scXe : Memref sig .tc .vmem S32x65536 .bf16 := Memref.whole cc0_scratch0
/-- The accumulator's buffer. -/
abbrev scAcc : Memref sig .tc .vmem S32x256 .f32 := Memref.whole cc0_scratch1

/-- The region's scoped rest: the two scratch buffers at some contents, and the generator register at some state. -/
theorem PhiA_eq (c : Dev nD) :
    (Pipeline.ΦA spec0 c : sProp 𝕄)
      = iprop(iprop((∃ d, owns (c : Thread nD τ) scXe fullShare d) ∗ (∃ d, owns (c : Thread nD τ) scAcc fullShare d)) ∗ (∃ r, prngReg c r)) := by
  unfold Pipeline.ΦA; rw [scopedRest0_eq]; simp only [scXe, scAcc, owns_whole]; try rfl

/-- The output window is idle where it is not stored, -/
theorem idle3 (t : Fin cfg0.N) (h : ¬condStore (grid0.coords t)) : cfg0.idle 3 (grid0.coords t) = true := by
  show (!(k0_cond3 (grid0.coords t) == 1#1)) = true
  simpa using h
/-- it is live where it is, -/
theorem live3 (t : Fin cfg0.N) (h : condStore (grid0.coords t)) : cfg0.idle 3 (grid0.coords t) = false := by
  show (!(k0_cond3 (grid0.coords t) == 1#1)) = false
  simpa using h
/-- and it is written back nowhere else. -/
theorem noFlush3 (t : Fin cfg0.N) (h : ¬condStore (grid0.coords t)) : (cfg0.win 3).flush t = false := by
  rw [condStore_iff, ← flush0_3] at h
  simpa using h
/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl

end Cert.KernelIdeal.Run

end
-- ==== Proof.KernelIdeal.Expand.lean ====
/- The one-time expansion of the activations: a loop of 128 trips, trip `k` filling columns `512 k .. 512 k + 511` of the
   expanded activations from columns `128 k .. 128 k + 127` of the activations. -/
module

public import proofs.«01_k».proof.Proof.KernelIdeal.Lanes
public import proofs.«01_k».proof.Proof.KernelIdeal.Points
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The expanded activations: row `8 j + p`, column `4 k + j` holds `x[p, k]`, and every other place holds zero. -/
def expandAll (x : Vec F S8x16384 .bf16) : Vec F S32x65536 .bf16 := fun y =>
  if (y 1).val % 4 = (y 0).val / 8 then
    FloatOps.truncf .bf16 bitsLt_bf16_f32 (FloatOps.extf .f32 bitsLt_bf16_f32
      (x (ix2 ⟨(y 0).val % 8, by omega⟩ ⟨(y 1).val / 4, by have := idx2_lt1 y; omega⟩)))
  else FloatOps.truncf .bf16 bitsLt_bf16_f32 (Scalar.ofBits .f32 0x00000000#32)

/-- The 128 columns of the activations from column `128 k` on. -/
def actCols (x : Vec F S8x16384 .bf16) (k : ℕ) : Vec F S8x128 .bf16 := fun y =>
  x (ix2 (y 0) ⟨(128 * k + (y 1).val) % 16384, Nat.mod_lt _ (by decide)⟩)

/-- A load of trip `k` reads those columns. -/
theorem actCols_read (arg2 : Memref sig .tc .vmem S8x16384 .bf16) (harg2 : arg2.IsWhole) (x : Vec F S8x16384 .bf16) (k : Fin k0_t1_loop.trips)
    (inb : ∀ a, k0_off1 k a + S8x128.size a ≤ S8x16384.size a) :
    arg2.view.readAt (Elt F) (Rect.unit (s := S8x16384) (k0_off1 k) S8x128.size inb).toLoadRect (harg2.unread x) = actCols x k.val := by
  funext y
  have hk : k.val < 128 := Nat.lt_of_lt_of_le k.isLt k0_t1_abs.2.1
  have h1 := idx2_lt1 y
  show arg2.view.read (Elt F) (harg2.unread x) _ = _
  rw [harg2.read_unread]
  refine congrArg x (funext fun a => ?_)
  match a with
  | ⟨0, _⟩ =>
    apply Fin.ext
    show k0_off1 k 0 + 1 * (y 0).val = (y 0).val
    rw [congrFun (k0_off1_eq k) 0]
    show 0 + 1 * (y 0).val = (y 0).val
    omega
  | ⟨1, _⟩ =>
    apply Fin.ext
    show k0_off1 k 1 + 1 * (y 1).val = (128 * k.val + (y 1).val) % 16384
    rw [congrFun (k0_off1_eq k) 1]
    show 128 * k.val + 1 * (y 1).val = _
    omega

/-- A group of the expanded activations, computed from the columns of trip `k`, is the expanded activations at its places. -/
theorem expandGroup_at (x : Vec F S8x16384 .bf16) (k : Fin k0_t1_loop.trips) (c : Fin 4) (y : S32x65536.Idx) (z : S32x128.Idx)
    (h0 : (z 0).val = (y 0).val) (h1 : (y 1).val = 512 * k.val + 128 * c.val + (z 1).val) :
    expandGroup (BitVec.ofNat 32 (32 * c.val)) (actCols x k.val) z = expandAll x y := by
  have hk : k.val < 128 := Nat.lt_of_lt_of_le k.isLt k0_t1_abs.2.1
  have hz := idx2_lt1 z
  rw [expandGroup_eq]
  unfold expandAll actCols
  have e : ((z 1).val % 4 = (z 0).val / 8) = ((y 1).val % 4 = (y 0).val / 8) := by
    have : (z 1).val % 4 = (y 1).val % 4 := by omega
    rw [this, h0]
  by_cases h : (y 1).val % 4 = (y 0).val / 8
  · rw [if_pos h, if_pos (e.mpr h)]
    refine congrArg _ (congrArg _ (congrArg x (funext fun a => ?_)))
    match a with
    | ⟨0, _⟩ => exact Fin.ext (by show (z 0).val % 8 = (y 0).val % 8; rw [h0])
    | ⟨1, _⟩ => exact Fin.ext (by show (128 * k.val + (32 * c.val + (z 1).val / 4)) % 16384 = (y 1).val / 4; omega)
  · rw [if_neg h, if_neg (fun h' => h (e.mp h'))]

/-- Storing one group over contents that are the expanded activations up to its first column extends them by the group. -/
theorem store_group (arg6 : Memref sig .tc .vmem S32x65536 .bf16) (x : Vec F S8x16384 .bf16) (k : Fin k0_t1_loop.trips) (c : Fin 4)
    (f : BufTy.Contents (Elt F) arg6.view.ty) (L : List (View.Piece (Elt F) S32x65536 .bf16))
    (v : Vec F S8x128 .bf16) (hv : v = actCols x k.val)
    (inb : ∀ a, k0_off2 k (BitVec.ofNat 32 (128 * c.val)) a + S32x128.size a ≤ S32x65536.size a)
    (hf : ∀ y : S32x65536.Idx, (y 1).val < 512 * k.val + 128 * c.val → arg6.view.read (Elt F) (arg6.view.writes (Elt F) f L) y = expandAll x y) :
    ∀ y : S32x65536.Idx, (y 1).val < 512 * k.val + 128 * (c.val + 1) →
      arg6.view.read (Elt F) (arg6.view.writes (Elt F) f
        (⟨Rect.unit (s := S32x65536) (k0_off2 k (BitVec.ofNat 32 (128 * c.val))) S32x128.size inb,
          expandGroup (BitVec.ofNat 32 (32 * c.val)) v⟩ :: L)) y = expandAll x y := by
  subst hv
  intro y hy
  have h0 := idx2_lt0 y
  by_cases h : (y 1).val < 512 * k.val + 128 * c.val
  · rw [View.read_writes_cons_unit_of_not_mem _ f inb _ L y (k0_off2_eq k c) 1 (.inl h)]
    exact hf y h
  · have hz : (y 1).val - (512 * k.val + 128 * c.val) < 128 := by omega
    rw [View.read_writes_cons_unit_of_mem _ f inb _ L y (ix2 (y 0) ⟨_, hz⟩) (k0_off2_eq k c) (fun a => by
      match a with
      | ⟨0, _⟩ => exact (Nat.zero_add _).symm
      | ⟨1, _⟩ => show (y 1).val = 512 * k.val + 128 * c.val + ((y 1).val - (512 * k.val + 128 * c.val)); omega)]
    refine expandGroup_at x k c y _ rfl ?_
    show (y 1).val = 512 * k.val + 128 * c.val + ((y 1).val - (512 * k.val + 128 * c.val)); omega

/-- What the loop keeps before trip `k`: the activations as they were, and the expanded activations up to column `512 k`. -/
def expandInv (c : Dev nD) (arg2 : Memref sig .tc .vmem S8x16384 .bf16) (harg2 : arg2.IsWhole) (arg6 : Memref sig .tc .vmem S32x65536 .bf16)
    (x : Vec F S8x16384 .bf16) (k : ℕ) : sProp 𝕄 :=
  iprop((arg2.view.loc (c : Thread nD τ) ↦[arg2.view.set]{fullShare} harg2.unread x)
    ∗ (∃ f, (arg6.view.loc (c : Thread nD τ) ↦[arg6.view.set]{fullShare} f)
        ∗ ⌜∀ y : S32x65536.Idx, (y 1).val < 512 * k → arg6.view.read (Elt F) f y = expandAll x y⌝))

set_option maxHeartbeats 4000000 in
/-- One trip of the loop. -/
theorem expandTrip (c : Dev nD) (E : Set ℕ) (i : grid0.Coords) (arg2 : Memref sig .tc .vmem S8x16384 .bf16) (harg2 : arg2.IsWhole) (arg3 : Memref sig .tc .vmem S1024x4096 .i8) (harg3 : arg3.IsWhole) (arg4 : Memref sig .tc .vmem S1x1024 .f32) (harg4 : arg4.IsWhole) (arg5 : Memref sig .tc .vmem S8x1024 .bf16) (harg5 : arg5.IsWhole) (arg6 : Memref sig .tc .vmem S32x65536 .bf16) (harg6 : arg6.IsWhole) (arg7 : Memref sig .tc .vmem S32x256 .f32) (harg7 : arg7.IsWhole)
    (h1 : k0_cond1 i = 1#1) (x : Vec F S8x16384 .bf16) (k : Fin k0_t1_loop.trips) :
    expandInv c arg2 harg2 arg6 x k.val
      ⊢ wp frame (wpE (defs₀ (F := F)) Variants.none (c : Thread nD τ) none) E
          (k0_t1_body (F := F) i arg2 harg2 arg3 harg3 arg4 harg4 arg5 harg5 arg6 harg6 arg7 harg7 h1 lane k PUnit.unit)
          (fun _ => expandInv c arg2 harg2 arg6 x (k.val + 1)) := by
  have hk : k.val < 128 := Nat.lt_of_lt_of_le k.isLt k0_t1_abs.2.1
  unfold k0_t1_body expandInv
  iintro ⟨HR, ⟨%f, HW, %hf⟩⟩
  sl_exec
  sl_step
  isplitl [HR]; · iexact HR
  iexists _; isplitl [HW]; · iexact HW
  ipureintro
  intro y hy
  have inb := fun r => k0_off2_inb i k h1 r
  have hv := actCols_read arg2 harg2 x k (k0_off1_inb i k h1)
  have s0 := store_group arg6 x k 0 f [] _ hv (inb 0) hf
  have s1 := store_group arg6 x k 1 f _ _ hv (inb 1) s0
  have s2 := store_group arg6 x k 2 f _ _ hv (inb 2) s1
  have s3 := store_group arg6 x k 3 f _ _ hv (inb 3) s2
  exact s3 y (by show (y 1).val < 512 * k.val + 128 * 4; omega)

end Cert.KernelIdeal.Run

end
-- ==== Proof.KernelIdeal.Block.lean ====
/- What one grid point computes: the accumulator with the products of 32 chunks added, and, at the last point of a row of the
   grid, a block of the output. -/
module

public import proofs.«01_k».proof.Proof.KernelIdeal.Expand

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx

variable {F : FTy → Type} [FloatOps F]

/-- The 128 columns of a weight block from column `n` on. -/
def wCols (w : Vec F S1024x4096 .i8) (n : ℕ) : Vec F S1024x128 .i8 := fun y =>
  w (ix2 (y 0) ⟨(n + (y 1).val) % 4096, Nat.mod_lt _ (by decide)⟩)

/-- The 512 columns of the expanded activations from column `n` on. -/
def xCols (xe : Vec F S32x65536 .bf16) (n : ℕ) : Vec F S32x512 .bf16 := fun y =>
  xe (ix2 (y 0) ⟨(n + (y 1).val) % 65536, Nat.mod_lt _ (by decide)⟩)

/-- One chunk's product: 512 columns of the expanded activations times the chunk of weights, whose bytes are read as words, the
    words transposed, and read as bytes again. -/
def chunkDot (xc : Vec F S32x512 .bf16) (wc : Vec F S1024x128 .i8) : FVec F S32x256 .f32 :=
  matmul dot_S32x512_S512x256_S32x256_1_0_0_1_n_n none xc
    (sitofp .bf16
      (bitcast S512x256 8
        (transpose S128x256 [1, 0] (bitcast S256x128 32 wc bitcasts_S1024x128_w8_S256x128_w32) transposes_S256x128_p1_0_S128x256)
        bitcasts_S128x256_w32_S512x256_w8))
    (constant S32x256 .f32 0x00000000#32)

/-- Where chunk `c`'s columns of the expanded activations begin at a grid point. -/
def xOff (i : grid0.Coords) (c : ℕ) : ℕ := k0_off3 i (BitVec.ofNat 32 (512 * c)) 1

theorem xOff_eq (i : grid0.Coords) (c : Fin 32) : xOff i c.val = 16384 * (i 1).val + 512 * c.val :=
  congrFun (k0_off3_eq i c) 1

/-- The sum of the first `n` chunks' products. -/
def dots (i : grid0.Coords) (w : Vec F S1024x4096 .i8) (xe : Vec F S32x65536 .bf16) : ℕ → FVec F S32x256 .f32
  | 0 => broadcast S32x256 (Scalar.ofBits .f32 0x00000000#32)
  | c + 1 => addf (dots i w xe c) (chunkDot (xCols xe (xOff i c)) (wCols w (128 * c)))

/-- The accumulator after a point. -/
def accum (i : grid0.Coords) (xa : Vec F S32x256 .f32) (w : Vec F S1024x4096 .i8) (xe : Vec F S32x65536 .bf16) : Vec F S32x256 .f32 :=
  addf xa (dots i w xe 32)

/-- The cleared accumulator. -/
def cleared : Vec F S32x256 .f32 := broadcast S32x256 (Scalar.ofBits .f32 0x00000000#32)

/-- The output block of an accumulator: column `4 r + j` of row `t` is the accumulator's row `8 j + t`, column `r`, times the scale. -/
def outBlock (xa : Vec F S32x256 .f32) (s : Vec F S1x1024 .f32) : Vec F S8x1024 .bf16 := fun y =>
  FloatOps.truncf .bf16 bitsLt_bf16_f32 (FloatOps.mulf
    (xa (ix2 ⟨8 * ((y 1).val % 4) + (y 0).val, by have := idx2_lt0 y; omega⟩ ⟨(y 1).val / 4, by have := idx2_lt1 y; omega⟩))
    (s (ix2 0 (y 1))))

/-! ## Loads -/

/-- A load of 128 columns of the weight block. -/
theorem wCols_read (arg3 : Memref sig .tc .vmem S1024x4096 .i8) (f : BufTy.Contents (Elt F) arg3.view.ty) (n : ℕ)
    (inb : ∀ a, (![0, n] : Fin 2 → ℕ) a + S1024x128.size a ≤ S1024x4096.size a) :
    arg3.view.readAt (Elt F) (Rect.unit (s := S1024x4096) ![0, n] S1024x128.size inb).toLoadRect f = wCols (arg3.view.read (Elt F) f) n := by
  funext y
  have h1 := idx2_lt1 y
  have hn : n + 128 ≤ 4096 := inb 1
  refine congrArg (arg3.view.read (Elt F) f) (funext fun a => ?_)
  match a with
  | ⟨0, _⟩ => exact Fin.ext (by show 0 + 1 * (y 0).val = (y 0).val; omega)
  | ⟨1, _⟩ => exact Fin.ext (by show n + 1 * (y 1).val = (n + (y 1).val) % 4096; omega)

/-- A load of 512 columns of the expanded activations. -/
theorem xCols_read (arg6 : Memref sig .tc .vmem S32x65536 .bf16) (f : BufTy.Contents (Elt F) arg6.view.ty) (i : grid0.Coords) (b : BitVec 32)
    (inb : ∀ a, k0_off3 i b a + S32x512.size a ≤ S32x65536.size a) :
    arg6.view.readAt (Elt F) (Rect.unit (s := S32x65536) (k0_off3 i b) S32x512.size inb).toLoadRect f
      = xCols (arg6.view.read (Elt F) f) (k0_off3 i b 1) := by
  funext y
  have h1 := idx2_lt1 y
  have hn : k0_off3 i b 1 + 512 ≤ 65536 := inb 1
  refine congrArg (arg6.view.read (Elt F) f) (funext fun a => ?_)
  match a with
  | ⟨0, _⟩ => exact Fin.ext (by show 0 + 1 * (y 0).val = (y 0).val; omega)
  | ⟨1, _⟩ => exact Fin.ext (by show k0_off3 i b 1 + 1 * (y 1).val = (k0_off3 i b 1 + (y 1).val) % 65536; omega)

/-- A load of 8 rows and 128 columns of the accumulator. -/
def accPart (xa : Vec F S32x256 .f32) (r n : ℕ) : Vec F S8x128 .f32 := fun y =>
  xa (ix2 ⟨(r + (y 0).val) % 32, Nat.mod_lt _ (by decide)⟩ ⟨(n + (y 1).val) % 256, Nat.mod_lt _ (by decide)⟩)

theorem accPart_read (arg7 : Memref sig .tc .vmem S32x256 .f32) (f : BufTy.Contents (Elt F) arg7.view.ty) (r n : ℕ)
    (inb : ∀ a, (![r, n] : Fin 2 → ℕ) a + S8x128.size a ≤ S32x256.size a) :
    arg7.view.readAt (Elt F) (Rect.unit (s := S32x256) ![r, n] S8x128.size inb).toLoadRect f = accPart (arg7.view.read (Elt F) f) r n := by
  funext y
  have h0 := idx2_lt0 y
  have h1 := idx2_lt1 y
  have hr : r + 8 ≤ 32 := inb 0
  have hn : n + 128 ≤ 256 := inb 1
  refine congrArg (arg7.view.read (Elt F) f) (funext fun a => ?_)
  match a with
  | ⟨0, _⟩ => exact Fin.ext (by show r + 1 * (y 0).val = (r + (y 0).val) % 32; omega)
  | ⟨1, _⟩ => exact Fin.ext (by show n + 1 * (y 1).val = (n + (y 1).val) % 256; omega)

/-- A load of 128 scales. -/
def scalePart (s : Vec F S1x1024 .f32) (n : ℕ) : Vec F S1x128 .f32 := fun y =>
  s (ix2 0 ⟨(n + (y 1).val) % 1024, Nat.mod_lt _ (by decide)⟩)

theorem scalePart_read (arg4 : Memref sig .tc .vmem S1x1024 .f32) (f : BufTy.Contents (Elt F) arg4.view.ty) (n : ℕ)
    (inb : ∀ a, (![0, n] : Fin 2 → ℕ) a + S1x128.size a ≤ S1x1024.size a) :
    arg4.view.readAt (Elt F) (Rect.unit (s := S1x1024) ![0, n] S1x128.size inb).toLoadRect f = scalePart (arg4.view.read (Elt F) f) n := by
  funext y
  have h0 : (y 0).val < 1 := idx2_lt0 y
  have h1 := idx2_lt1 y
  have hn : n + 128 ≤ 1024 := inb 1
  refine congrArg (arg4.view.read (Elt F) f) (funext fun a => ?_)
  match a with
  | ⟨0, _⟩ => exact Fin.ext (by show 0 + 1 * (y 0).val = 0; omega)
  | ⟨1, _⟩ => exact Fin.ext (by show n + 1 * (y 1).val = (n + (y 1).val) % 1024; omega)

/-! ## The output block, group by group -/

/-- Group `q` of the output, computed from the accumulator and the scales. -/
def groupOf (xa : Vec F S32x256 .f32) (s : Vec F S1x1024 .f32) (q : ℕ) : FVec F S8x128 .bf16 :=
  outGroup (BitVec.ofNat 32 (32 * (q % 4))) (accPart xa 0 (128 * (q / 4))) (accPart xa 8 (128 * (q / 4))) (accPart xa 16 (128 * (q / 4)))
    (accPart xa 24 (128 * (q / 4))) (scalePart s (128 * q))

/-- Group `q` is columns `128 q .. 128 q + 127` of the output block. -/
theorem groupOf_at (xa : Vec F S32x256 .f32) (s : Vec F S1x1024 .f32) (q : Fin 8) (y : S8x1024.Idx) (z : S8x128.Idx)
    (h0 : (z 0).val = (y 0).val) (h1 : (y 1).val = 128 * q.val + (z 1).val) :
    groupOf xa s q.val z = outBlock xa s y := by
  have hz0 := idx2_lt0 z
  have hz := idx2_lt1 z
  have hq := q.isLt
  refine (outGroup_eq ⟨q.val % 4, by omega⟩ (fun j => accPart xa (8 * j.val) (128 * (q.val / 4))) (scalePart s (128 * q.val)) z).trans ?_
  unfold outBlock
  refine congrArg _ (congrArg₂ _ (congrArg xa (funext fun a => ?_)) (congrArg s (funext fun a => ?_)))
  · match a with
    | ⟨0, _⟩ => exact Fin.ext (by show (8 * ((z 1).val % 4) + (z 0).val) % 32 = 8 * ((y 1).val % 4) + (y 0).val; omega)
    | ⟨1, _⟩ => exact Fin.ext (by show (128 * (q.val / 4) + (32 * (q.val % 4) + (z 1).val / 4)) % 256 = (y 1).val / 4; omega)
  · match a with
    | ⟨0, _⟩ => rfl
    | ⟨1, _⟩ => exact Fin.ext (by show (128 * q.val + (z 1).val) % 1024 = (y 1).val; omega)

/-- Group `q` computed from loads of the accumulator and of the scales. -/
theorem groupOf_read (arg4 : Memref sig .tc .vmem S1x1024 .f32) (arg7 : Memref sig .tc .vmem S32x256 .f32)
    (f : BufTy.Contents (Elt F) arg4.view.ty) (g : BufTy.Contents (Elt F) arg7.view.ty) (xa : Vec F S32x256 .f32) (s : Vec F S1x1024 .f32)
    (hf : arg4.view.read (Elt F) f = s) (hg : arg7.view.read (Elt F) g = xa) (q : Fin 8)
    (inb0 : ∀ a, (![0, 128 * (q.val / 4)] : Fin 2 → ℕ) a + S8x128.size a ≤ S32x256.size a)
    (inb1 : ∀ a, (![8, 128 * (q.val / 4)] : Fin 2 → ℕ) a + S8x128.size a ≤ S32x256.size a)
    (inb2 : ∀ a, (![16, 128 * (q.val / 4)] : Fin 2 → ℕ) a + S8x128.size a ≤ S32x256.size a)
    (inb3 : ∀ a, (![24, 128 * (q.val / 4)] : Fin 2 → ℕ) a + S8x128.size a ≤ S32x256.size a)
    (inbs : ∀ a, (![0, 128 * q.val] : Fin 2 → ℕ) a + S1x128.size a ≤ S1x1024.size a) :
    outGroup (BitVec.ofNat 32 (32 * (q.val % 4)))
      (arg7.view.readAt (Elt F) (Rect.unit (s := S32x256) ![0, 128 * (q.val / 4)] S8x128.size inb0).toLoadRect g)
      (arg7.view.readAt (Elt F) (Rect.unit (s := S32x256) ![8, 128 * (q.val / 4)] S8x128.size inb1).toLoadRect g)
      (arg7.view.readAt (Elt F) (Rect.unit (s := S32x256) ![16, 128 * (q.val / 4)] S8x128.size inb2).toLoadRect g)
      (arg7.view.readAt (Elt F) (Rect.unit (s := S32x256) ![24, 128 * (q.val / 4)] S8x128.size inb3).toLoadRect g)
      (arg4.view.readAt (Elt F) (Rect.unit (s := S1x1024) ![0, 128 * q.val] S1x128.size inbs).toLoadRect f)
      = groupOf xa s q.val := by
  subst hf hg
  rw [accPart_read, accPart_read, accPart_read, accPart_read, scalePart_read]
  rfl

/-- Storing group `q` over contents that are the output block up to its first column extends them by the group. -/
theorem store_out (arg5 : Memref sig .tc .vmem S8x1024 .bf16) (xa : Vec F S32x256 .f32) (s : Vec F S1x1024 .f32) (q : Fin 8)
    (f : BufTy.Contents (Elt F) arg5.view.ty) (L : List (View.Piece (Elt F) S8x1024 .bf16)) (v : FVec F S8x128 .bf16)
    (inb : ∀ a, (![0, 128 * q.val] : Fin 2 → ℕ) a + S8x128.size a ≤ S8x1024.size a)
    (hv : v = groupOf xa s q.val)
    (hf : ∀ y : S8x1024.Idx, (y 1).val < 128 * q.val → arg5.view.read (Elt F) (arg5.view.writes (Elt F) f L) y = outBlock xa s y) :
    ∀ y : S8x1024.Idx, (y 1).val < 128 * (q.val + 1) →
      arg5.view.read (Elt F) (arg5.view.writes (Elt F) f
        (⟨Rect.unit (s := S8x1024) ![0, 128 * q.val] S8x128.size inb, v⟩ :: L)) y = outBlock xa s y := by
  subst hv
  intro y hy
  have h0 := idx2_lt0 y
  by_cases h : (y 1).val < 128 * q.val
  · rw [View.read_writes_cons_unit_of_not_mem _ f inb _ L y rfl 1 (.inl h)]
    exact hf y h
  · have hz : (y 1).val - 128 * q.val < 128 := by omega
    rw [View.read_writes_cons_unit_of_mem _ f inb _ L y (ix2 (y 0) ⟨_, hz⟩) rfl (fun a => by
      match a with
      | ⟨0, _⟩ => exact (Nat.zero_add _).symm
      | ⟨1, _⟩ => show (y 1).val = 128 * q.val + ((y 1).val - 128 * q.val); omega)]
    refine groupOf_at xa s q y _ rfl ?_
    show (y 1).val = 128 * q.val + ((y 1).val - 128 * q.val); omega

end Cert.KernelIdeal.Run

end
-- ==== Proof.KernelIdeal.Body.lean ====
/- The runs of the kernel's body at one grid point, one theorem for each way its three conditionals go: the scratch buffers and the
   output block after the point, from what they held before it. -/
module

public import proofs.«01_k».proof.Proof.KernelIdeal.Block

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
/-- A point at which nothing is expanded, cleared or stored: the accumulator gains the point's 32 products. -/
theorem runMid (c : Dev nD) (E : Set ℕ) (i : grid0.Coords) (arg2 : Memref sig .tc .vmem S8x16384 .bf16) (harg2 : arg2.IsWhole) (arg3 : Memref sig .tc .vmem S1024x4096 .i8) (harg3 : arg3.IsWhole) (arg4 : Memref sig .tc .vmem S1x1024 .f32) (harg4 : arg4.IsWhole) (arg5 : Memref sig .tc .vmem S8x1024 .bf16) (harg5 : arg5.IsWhole) (arg6 : Memref sig .tc .vmem S32x65536 .bf16) (harg6 : arg6.IsWhole) (arg7 : Memref sig .tc .vmem S32x256 .f32) (harg7 : arg7.IsWhole)
    (h0 : ¬condExpand i) (h1 : ¬condClear i) (h2 : ¬condStore i)
    (x0 : Vec F S8x16384 .bf16) (x1 : Vec F S1024x4096 .i8) (x2 : Vec F S1x1024 .f32) (xo : Vec F S8x1024 .bf16) (xe : Vec F S32x65536 .bf16)
    (xa : Vec F S32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare xe ∗ owns (c : Thread nD τ) arg7 fullShare xa
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare xe ∗ owns (c : Thread nD τ) arg7 fullShare (accum i xa x1 xe)) -∗ K ⟨⟩))
      ⊢ wp frame (wpE (defs₀ (F := F)) Variants.none c none) E (cc0_w8_linear i arg2 harg2 arg3 harg3 arg4 harg4 arg5 harg5 arg6 harg6 arg7 harg7) K := by
  simp only [cc0_w8_linear_eq_skeleton]; unfold cc0_w8_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; rotate_left; · iexact H5
  ipureintro
  rw [View.read_writes_full]
  subst hf1 hf4 hf5
  unfold k0_pay1
  rw [shapeCast_self]
  delta runMid.sl.r_18 runMid.sl.r_17 runMid.sl.r_16 runMid.sl.r_15 runMid.sl.r_14 runMid.sl.r_13 runMid.sl.r_12 runMid.sl.r_11 runMid.sl.r_10 runMid.sl.r_9 runMid.sl.r_8 runMid.sl.r_7 runMid.sl.r_6 runMid.sl.r_5 runMid.sl.r_4 runMid.sl.r_3 runMid.sl.r_2 runMid.sl.r_1 runMid.sl.r
  simp -proj only [wCols_read, xCols_read, View.readAt_full]
  rfl

set_option maxHeartbeats 4000000 in
/-- A point at which the accumulator is cleared first. -/
theorem runClear (c : Dev nD) (E : Set ℕ) (i : grid0.Coords) (arg2 : Memref sig .tc .vmem S8x16384 .bf16) (harg2 : arg2.IsWhole) (arg3 : Memref sig .tc .vmem S1024x4096 .i8) (harg3 : arg3.IsWhole) (arg4 : Memref sig .tc .vmem S1x1024 .f32) (harg4 : arg4.IsWhole) (arg5 : Memref sig .tc .vmem S8x1024 .bf16) (harg5 : arg5.IsWhole) (arg6 : Memref sig .tc .vmem S32x65536 .bf16) (harg6 : arg6.IsWhole) (arg7 : Memref sig .tc .vmem S32x256 .f32) (harg7 : arg7.IsWhole)
    (h0 : ¬condExpand i) (h1 : condClear i) (h2 : ¬condStore i)
    (x0 : Vec F S8x16384 .bf16) (x1 : Vec F S1024x4096 .i8) (x2 : Vec F S1x1024 .f32) (xo : Vec F S8x1024 .bf16) (xe : Vec F S32x65536 .bf16)
    (xa : Vec F S32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare xe ∗ owns (c : Thread nD τ) arg7 fullShare xa
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare xe ∗ owns (c : Thread nD τ) arg7 fullShare (accum i cleared x1 xe)) -∗ K ⟨⟩))
      ⊢ wp frame (wpE (defs₀ (F := F)) Variants.none c none) E (cc0_w8_linear i arg2 harg2 arg3 harg3 arg4 harg4 arg5 harg5 arg6 harg6 arg7 harg7) K := by
  simp only [cc0_w8_linear_eq_skeleton]; unfold cc0_w8_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | sl_exact h0 | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; rotate_left; · iexact H5
  ipureintro
  rw [View.read_writes_full]
  subst hf1 hf4
  unfold k0_pay1
  rw [shapeCast_self]
  delta runClear.sl.r_18 runClear.sl.r_17 runClear.sl.r_16 runClear.sl.r_15 runClear.sl.r_14 runClear.sl.r_13 runClear.sl.r_12 runClear.sl.r_11 runClear.sl.r_10 runClear.sl.r_9 runClear.sl.r_8 runClear.sl.r_7 runClear.sl.r_6 runClear.sl.r_5 runClear.sl.r_4 runClear.sl.r_3 runClear.sl.r_2 runClear.sl.r_1 runClear.sl.r runClear.sl.v393 runClear.sl.H5_1 k0_pay120
  simp -proj only [wCols_read, xCols_read, View.readAt_full, View.readCov_full, shapeCast_self]
  rfl

end Cert.KernelIdeal.Run

end
-- ==== Proof.KernelIdeal.BodyStore.lean ====
/- The runs of the kernel's body at one grid point, one theorem for each way its three conditionals go: the scratch buffers and the
   output block after the point, from what they held before it. -/
module

public import proofs.«01_k».proof.Proof.KernelIdeal.Block

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option maxHeartbeats 4000000 in
/-- A point at which the accumulator is stored: the output block is the accumulator's. -/
theorem runStore (c : Dev nD) (E : Set ℕ) (i : grid0.Coords) (arg2 : Memref sig .tc .vmem S8x16384 .bf16) (harg2 : arg2.IsWhole) (arg3 : Memref sig .tc .vmem S1024x4096 .i8) (harg3 : arg3.IsWhole) (arg4 : Memref sig .tc .vmem S1x1024 .f32) (harg4 : arg4.IsWhole) (arg5 : Memref sig .tc .vmem S8x1024 .bf16) (harg5 : arg5.IsWhole) (arg6 : Memref sig .tc .vmem S32x65536 .bf16) (harg6 : arg6.IsWhole) (arg7 : Memref sig .tc .vmem S32x256 .f32) (harg7 : arg7.IsWhole)
    (h0 : ¬condExpand i) (h1 : ¬condClear i) (h2 : condStore i)
    (x0 : Vec F S8x16384 .bf16) (x1 : Vec F S1024x4096 .i8) (x2 : Vec F S1x1024 .f32) (xo : Vec F S8x1024 .bf16) (xe : Vec F S32x65536 .bf16)
    (xa : Vec F S32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare xe ∗ owns (c : Thread nD τ) arg7 fullShare xa
        ∗ (iprop(owns (c : Thread nD τ) arg2 fullShare x0 ∗ owns (c : Thread nD τ) arg3 fullShare x1 ∗ owns (c : Thread nD τ) arg4 fullShare x2 ∗ owns (c : Thread nD τ) arg5 fullShare (outBlock (accum i xa x1 xe) x2)
            ∗ owns (c : Thread nD τ) arg6 fullShare xe ∗ owns (c : Thread nD τ) arg7 fullShare (accum i xa x1 xe)) -∗ K ⟨⟩))
      ⊢ wp frame (wpE (defs₀ (F := F)) Variants.none c none) E (cc0_w8_linear i arg2 harg2 arg3 harg3 arg4 harg4 arg5 harg5 arg6 harg6 arg7 harg7) K := by
  simp only [cc0_w8_linear_eq_skeleton]; unfold cc0_w8_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | sl_exact h0 | sl_exact h1 | sl_exact h2)
  sl_step
  have hacc : ∀ f, arg7.view.read (Elt F) (arg7.view.writes (Elt F) f (runStore.sl.H5_1 c i arg3 arg6 arg7 f1 f4 f5)) = accum i xa x1 xe := by
    intro f
    delta runStore.sl.H5_1
    rw [View.read_writes_full]
    subst hf1 hf4 hf5
    unfold k0_pay1
    rw [shapeCast_self]
    delta runStore.sl.r_18 runStore.sl.r_17 runStore.sl.r_16 runStore.sl.r_15 runStore.sl.r_14 runStore.sl.r_13 runStore.sl.r_12 runStore.sl.r_11 runStore.sl.r_10 runStore.sl.r_9 runStore.sl.r_8 runStore.sl.r_7 runStore.sl.r_6 runStore.sl.r_5 runStore.sl.r_4 runStore.sl.r_3 runStore.sl.r_2 runStore.sl.r_1 runStore.sl.r
    simp -proj only [wCols_read, xCols_read, View.readAt_full]
    rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; rotate_left; · iexact H3
    ipureintro
    have g0 := groupOf_read arg4 arg7 f2 _ (accum i xa x1 xe) x2 hf2 (hacc arg7.view.junk) 0 inb_S32x256_S8x128_0_0 inb_S32x256_S8x128_8_0 inb_S32x256_S8x128_16_0 inb_S32x256_S8x128_24_0 inb_S1x1024_S1x128_0_0
    have s0 := store_out arg5 (accum i xa x1 xe) x2 0 f3 [] _ inb_S8x1024_S8x128_0_0 g0 (fun y hy => absurd hy (Nat.not_lt_zero _))
    have g1 := groupOf_read arg4 arg7 f2 _ (accum i xa x1 xe) x2 hf2 (hacc arg7.view.junk) 1 inb_S32x256_S8x128_0_0 inb_S32x256_S8x128_8_0 inb_S32x256_S8x128_16_0 inb_S32x256_S8x128_24_0 inb_S1x1024_S1x128_0_128
    have s1 := store_out arg5 (accum i xa x1 xe) x2 1 f3 _ _ inb_S8x1024_S8x128_0_128 g1 s0
    have g2 := groupOf_read arg4 arg7 f2 _ (accum i xa x1 xe) x2 hf2 (hacc arg7.view.junk) 2 inb_S32x256_S8x128_0_0 inb_S32x256_S8x128_8_0 inb_S32x256_S8x128_16_0 inb_S32x256_S8x128_24_0 inb_S1x1024_S1x128_0_256
    have s2 := store_out arg5 (accum i xa x1 xe) x2 2 f3 _ _ inb_S8x1024_S8x128_0_256 g2 s1
    have g3 := groupOf_read arg4 arg7 f2 _ (accum i xa x1 xe) x2 hf2 (hacc arg7.view.junk) 3 inb_S32x256_S8x128_0_0 inb_S32x256_S8x128_8_0 inb_S32x256_S8x128_16_0 inb_S32x256_S8x128_24_0 inb_S1x1024_S1x128_0_384
    have s3 := store_out arg5 (accum i xa x1 xe) x2 3 f3 _ _ inb_S8x1024_S8x128_0_384 g3 s2
    have g4 := groupOf_read arg4 arg7 f2 _ (accum i xa x1 xe) x2 hf2 (hacc arg7.view.junk) 4 inb_S32x256_S8x128_0_128 inb_S32x256_S8x128_8_128 inb_S32x256_S8x128_16_128 inb_S32x256_S8x128_24_128 inb_S1x1024_S1x128_0_512
    have s4 := store_out arg5 (accum i xa x1 xe) x2 4 f3 _ _ inb_S8x1024_S8x128_0_512 g4 s3
    have g5 := groupOf_read arg4 arg7 f2 _ (accum i xa x1 xe) x2 hf2 (hacc arg7.view.junk) 5 inb_S32x256_S8x128_0_128 inb_S32x256_S8x128_8_128 inb_S32x256_S8x128_16_128 inb_S32x256_S8x128_24_128 inb_S1x1024_S1x128_0_640
    have s5 := store_out arg5 (accum i xa x1 xe) x2 5 f3 _ _ inb_S8x1024_S8x128_0_640 g5 s4
    have g6 := groupOf_read arg4 arg7 f2 _ (accum i xa x1 xe) x2 hf2 (hacc arg7.view.junk) 6 inb_S32x256_S8x128_0_128 inb_S32x256_S8x128_8_128 inb_S32x256_S8x128_16_128 inb_S32x256_S8x128_24_128 inb_S1x1024_S1x128_0_768
    have s6 := store_out arg5 (accum i xa x1 xe) x2 6 f3 _ _ inb_S8x1024_S8x128_0_768 g6 s5
    have g7 := groupOf_read arg4 arg7 f2 _ (accum i xa x1 xe) x2 hf2 (hacc arg7.view.junk) 7 inb_S32x256_S8x128_0_128 inb_S32x256_S8x128_8_128 inb_S32x256_S8x128_16_128 inb_S32x256_S8x128_24_128 inb_S1x1024_S1x128_0_896
    have s7 := store_out arg5 (accum i xa x1 xe) x2 7 f3 _ _ inb_S8x1024_S8x128_0_896 g7 s6
    funext y
    exact s7 y (idx2_lt1 y)
  isplitl [H4]
  · iexists _; isplitr; · ipureintro; exact hf4
    iexact H4
  iexists _; isplitr; rotate_left; · iexact H5
  ipureintro
  exact hacc f5

end Cert.KernelIdeal.Run

end
-- ==== Proof.KernelIdeal.BodyExpand.lean ====
/- The runs of the kernel's body at one grid point, one theorem for each way its three conditionals go: the scratch buffers and the
   output block after the point, from what they held before it. -/
module

public import proofs.«01_k».proof.Proof.KernelIdeal.Block

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The loop of the expansion by what it keeps. -/
@[instance_reducible] def expandLoop (c : Dev nD) (E : Set ℕ) (i : grid0.Coords) (arg2 : Memref sig .tc .vmem S8x16384 .bf16) (harg2 : arg2.IsWhole) (arg3 : Memref sig .tc .vmem S1024x4096 .i8) (harg3 : arg3.IsWhole) (arg4 : Memref sig .tc .vmem S1x1024 .f32) (harg4 : arg4.IsWhole) (arg5 : Memref sig .tc .vmem S8x1024 .bf16) (harg5 : arg5.IsWhole) (arg6 : Memref sig .tc .vmem S32x65536 .bf16) (harg6 : arg6.IsWhole) (arg7 : Memref sig .tc .vmem S32x256 .f32) (harg7 : arg7.IsWhole)
    (h0 : k0_cond1 i = 1#1) (x : Vec F S8x16384 .bf16) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i h0) ()
      (k0_t1_body (F := F) i arg2 harg2 arg3 harg3 arg4 harg4 arg5 harg5 arg6 harg6 arg7 harg7 h0 (iota .tc S8x128 32 [1] iota_S8x128_d1_w32)) where
  inv := fun k _ => expandInv c arg2 harg2 arg6 x k
  step := fun k _ => expandTrip c E i arg2 harg2 arg3 harg3 arg4 harg4 arg5 harg5 arg6 harg6 arg7 harg7 h0 x k

set_option maxHeartbeats 4000000 in
/-- The first point: the activations are expanded and the accumulator is cleared. -/
theorem runExpand (c : Dev nD) (E : Set ℕ) (i : grid0.Coords) (arg2 : Memref sig .tc .vmem S8x16384 .bf16) (harg2 : arg2.IsWhole) (arg3 : Memref sig .tc .vmem S1024x4096 .i8) (harg3 : arg3.IsWhole) (arg4 : Memref sig .tc .vmem S1x1024 .f32) (harg4 : arg4.IsWhole) (arg5 : Memref sig .tc .vmem S8x1024 .bf16) (harg5 : arg5.IsWhole) (arg6 : Memref sig .tc .vmem S32x65536 .bf16) (harg6 : arg6.IsWhole) (arg7 : Memref sig .tc .vmem S32x256 .f32) (harg7 : arg7.IsWhole)
    (h0 : condExpand i) (h1 : condClear i) (h2 : ¬condStore i)
    (x0 : Vec F S8x16384 .bf16) (x1 : Vec F S1024x4096 .i8) (x2 : Vec F S1x1024 .f32) (xo : Vec F S8x1024 .bf16) (xe : Vec F S32x65536 .bf16)
    (xa : Vec F S32x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare xe ∗ owns (c : Thread nD τ) arg7 fullShare xa
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (expandAll x0) ∗ owns (c : Thread nD τ) arg7 fullShare (accum i cleared x1 (expandAll x0))) -∗ K ⟨⟩))
      ⊢ wp frame (wpE (defs₀ (F := F)) Variants.none c none) E (cc0_w8_linear i arg2 harg2 arg3 harg3 arg4 harg4 arg5 harg5 arg6 harg6 arg7 harg7) K := by
  simp only [cc0_w8_linear_eq_skeleton]; unfold cc0_w8_linear_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0
  let L := expandLoop c E i arg2 harg2 arg3 harg3 arg4 harg4 arg5 harg5 arg6 harg6 arg7 harg7 h0 x0
  sl_exec (disch := first | sl_exact h0 | sl_exact h1 | sl_exact h2 | exact fun y hy => absurd hy (Nat.not_lt_zero _))
  sl_step
  have ht : Idealize.ShloMosaic.Scf.trips k0_t1_loop.lb k0_t1_loop.ub k0_t1_loop.st = 128 := by decide +kernel
  rw [ht] at hL2
  have hf6 : arg6.view.read (Elt F) fL0 = expandAll x0 := funext fun y => hL2 y (idx2_lt1 y)
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf6
    iexact H4
  iexists _; isplitr; rotate_left; · iexact H5
  ipureintro
  rw [View.read_writes_full]
  rw [← hf6]
  subst hf1
  unfold k0_pay1
  rw [shapeCast_self]
  delta runExpand.sl.r_18 runExpand.sl.r_17 runExpand.sl.r_16 runExpand.sl.r_15 runExpand.sl.r_14 runExpand.sl.r_13 runExpand.sl.r_12 runExpand.sl.r_11 runExpand.sl.r_10 runExpand.sl.r_9 runExpand.sl.r_8 runExpand.sl.r_7 runExpand.sl.r_6 runExpand.sl.r_5 runExpand.sl.r_4 runExpand.sl.r_3 runExpand.sl.r_2 runExpand.sl.r_1 runExpand.sl.r runExpand.sl.v393 runExpand.sl.H5_1 k0_pay120
  simp -proj only [wCols_read, xCols_read, View.readAt_full, View.readCov_full, shapeCast_self]
  rfl

end Cert.KernelIdeal.Run

end
-- ==== Proof.KernelIdeal.Frame.lean ====
/- The run of the whole grid: the invariant between points, the body at every point, and the frame. -/
module

public import proofs.«01_k».proof.Proof.KernelIdeal.Body
public import proofs.«01_k».proof.Proof.KernelIdeal.BodyStore
public import proofs.«01_k».proof.Proof.KernelIdeal.BodyExpand
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The first point. -/
abbrev t0 : Fin cfg0.N := ⟨0, Nat.lt_of_lt_of_eq (by decide) N_0.symm⟩

/-- The expanded activations, as the first point leaves them and every later one finds them. -/
def xeAt (c : Dev nD) : Vec F S32x65536 .bf16 := expandAll (iblk m c 0 t0)

/-- The accumulator after point `n`. -/
def accAt (c : Dev nD) : (n : ℕ) → n < cfg0.N → Vec F S32x256 .f32
  | 0, h => accum (grid0.coords ⟨0, h⟩) cleared (iblk m c 1 ⟨0, h⟩) (xeAt m c)
  | n + 1, h => accum (grid0.coords ⟨n + 1, h⟩) (if (n + 1) % 4 = 0 then cleared else accAt c n (Nat.lt_of_succ_lt h)) (iblk m c 1 ⟨n + 1, h⟩) (xeAt m c)

/-- At a point that clears it the accumulator starts from zero. -/
theorem accAt_clear (c : Dev nD) (t : Fin cfg0.N) (h : t.val % 4 = 0) :
    accAt m c t.val t.isLt = accum (grid0.coords t) cleared (iblk m c 1 t) (xeAt m c) := by
  obtain ⟨n, hn⟩ := t
  cases n with
  | zero => rfl
  | succ n => show accum _ (if (n + 1) % 4 = 0 then _ else _) _ _ = _; rw [if_pos h]

/-- At any other point it starts from what the point before left. -/
theorem accAt_add (c : Dev nD) (t : Fin cfg0.N) (h : ¬t.val % 4 = 0) (h' : t.val - 1 < cfg0.N) :
    accAt m c t.val t.isLt = accum (grid0.coords t) (accAt m c (t.val - 1) h') (iblk m c 1 t) (xeAt m c) := by
  obtain ⟨n, hn⟩ := t
  cases n with
  | zero => exact absurd rfl h
  | succ n => show accum _ (if (n + 1) % 4 = 0 then _ else _) _ _ = _; rw [if_neg h]; rfl

/-! ## The invariant between points -/

/-- Before the first point the scratch buffers hold anything; after point `n` the expanded activations and the accumulator. -/
def PhiS (c : Dev nD) : (n : ℕ) → n ≤ cfg0.N → sProp 𝕄
  | 0, _ => Pipeline.ΦA spec0 c
  | n + 1, hn => iprop(iprop(owns (c : Thread nD τ) scXe fullShare (xeAt m c) ∗ owns (c : Thread nD τ) scAcc fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scXe fullShare (xeAt m c) ∗ owns (c : Thread nD τ) scAcc fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scXe fullShare (xeAt m c) ∗ owns (c : Thread nD τ) scAcc fullShare (accAt m c (n - 1) (by omega))) ∗ (∃ r, prngReg c r)) := by
  cases n with
  | zero => exact absurd rfl hz
  | succ n => rfl

/-- The proof data: the arrays as the region finds them; after a point the inputs' blocks in place and the output block the accumulator's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (accAt m c t.val t.isLt) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock (accAt m c t.val t.isLt) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 1600000 in
/-- The body at any point, by the three conditionals. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ, PhiS_castSucc]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  have hN : t.val < 32 := Nat.lt_of_lt_of_eq t.isLt N_0
  by_cases hs : t.val % 4 = 3
  · rw [show (dats m 0 c).leavesExact 3 t = owns (c : Thread nD τ) (ms3 t) fullShare ((dats m 0 c).after 3 t) from by
      unfold Dat.leavesExact; rw [live3 t ((condStore_iff t).mpr hs)], after3]
    rw [PhiS_pos m c _ _ (by omega), accAt_add m c t (by omega) (by omega)]
    iintro ⟨⟨⟨HX, HA⟩, Hg⟩, Ho, ⟨%d0, H0⟩, ⟨%d1, H1⟩, ⟨%d2, H2⟩, ⟨%d3, H3⟩⟩
    iapply (runStore c Set.univ (grid0.coords t) _ _ _ _ _ _ _ _ _ _ _ _
      (fun h => by have := (condExpand_iff t).mp h; omega) (fun h => by have := (condClear_iff t).mp h; omega) ((condStore_iff t).mpr hs)
      (iblk m c 0 t) (iblk m c 1 t) (iblk m c 2 t) _ (xeAt m c) (accAt m c (t.val - 1) (by omega)) _)
    isplitl [H0]; · iexact H0
    isplitl [H1]; · iexact H1
    isplitl [H2]; · iexact H2
    isplitl [H3]; · iexact H3
    isplitl [HX]; · iexact HX
    isplitl [HA]; · iexact HA
    iintro ⟨H0, H1, H2, H3, HX, HA⟩
    isplitl [HX HA Hg]
    · isplitl [HX HA]
      · isplitl [HX]; · iexact HX
        iexact HA
      iexact Hg
    isplitl [Ho]; · iexact Ho
    isplitl [H0]; · iexact H0
    isplitl [H1]; · iexact H1
    isplitl [H2]; · iexact H2
    iexact H3
  · have hs' : ¬condStore (grid0.coords t) := fun h => hs ((condStore_iff t).mp h)
    rw [Dat.leavesExact_idle (dats m 0 c) 3 t (idle3 t hs') (noFlush3 t hs')]
    by_cases hc : t.val % 4 = 0
    · rw [accAt_clear m c t hc]
      by_cases hz : t.val = 0
      · rw [PhiS_zero m c _ _ hz, PhiA_eq]
        obtain rfl : t = t0 := Fin.ext hz
        iintro ⟨⟨⟨⟨%dx, HX⟩, ⟨%da, HA⟩⟩, Hg⟩, Ho, ⟨%d0, H0⟩, ⟨%d1, H1⟩, ⟨%d2, H2⟩, ⟨%d3, H3⟩⟩
        iapply (runExpand c Set.univ (grid0.coords t0) _ _ _ _ _ _ _ _ _ _ _ _
          ((condExpand_iff t0).mpr rfl) ((condClear_iff t0).mpr rfl) hs'
          (iblk m c 0 t0) (iblk m c 1 t0) (iblk m c 2 t0) _ dx da _)
        isplitl [H0]; · iexact H0
        isplitl [H1]; · iexact H1
        isplitl [H2]; · iexact H2
        isplitl [H3]; · iexact H3
        isplitl [HX]; · iexact HX
        isplitl [HA]; · iexact HA
        iintro ⟨H0, H1, H2, H3, HX, HA⟩
        isplitl [HX HA Hg]
        · isplitl [HX HA]
          · isplitl [HX]; · iexact HX
            iexact HA
          iexact Hg
        isplitl [Ho]; · iexact Ho
        isplitl [H0]; · iexact H0
        isplitl [H1]; · iexact H1
        isplitl [H2]; · iexact H2
        iexists _; iexact H3
      · rw [PhiS_pos m c _ _ hz]
        iintro ⟨⟨⟨HX, HA⟩, Hg⟩, Ho, ⟨%d0, H0⟩, ⟨%d1, H1⟩, ⟨%d2, H2⟩, ⟨%d3, H3⟩⟩
        iapply (runClear c Set.univ (grid0.coords t) _ _ _ _ _ _ _ _ _ _ _ _
          (fun h => by have := (condExpand_iff t).mp h; omega) ((condClear_iff t).mpr hc) hs'
          (iblk m c 0 t) (iblk m c 1 t) (iblk m c 2 t) _ (xeAt m c) (accAt m c (t.val - 1) (by omega)) _)
        isplitl [H0]; · iexact H0
        isplitl [H1]; · iexact H1
        isplitl [H2]; · iexact H2
        isplitl [H3]; · iexact H3
        isplitl [HX]; · iexact HX
        isplitl [HA]; · iexact HA
        iintro ⟨H0, H1, H2, H3, HX, HA⟩
        isplitl [HX HA Hg]
        · isplitl [HX HA]
          · isplitl [HX]; · iexact HX
            iexact HA
          iexact Hg
        isplitl [Ho]; · iexact Ho
        isplitl [H0]; · iexact H0
        isplitl [H1]; · iexact H1
        isplitl [H2]; · iexact H2
        iexists _; iexact H3
    · rw [accAt_add m c t hc (by omega), PhiS_pos m c _ _ (by omega)]
      iintro ⟨⟨⟨HX, HA⟩, Hg⟩, Ho, ⟨%d0, H0⟩, ⟨%d1, H1⟩, ⟨%d2, H2⟩, ⟨%d3, H3⟩⟩
      iapply (runMid c Set.univ (grid0.coords t) _ _ _ _ _ _ _ _ _ _ _ _
        (fun h => by have := (condExpand_iff t).mp h; omega) (fun h => hc ((condClear_iff t).mp h)) hs'
        (iblk m c 0 t) (iblk m c 1 t) (iblk m c 2 t) _ (xeAt m c) (accAt m c (t.val - 1) (by omega)) _)
      isplitl [H0]; · iexact H0
      isplitl [H1]; · iexact H1
      isplitl [H2]; · iexact H2
      isplitl [H3]; · iexact H3
      isplitl [HX]; · iexact HX
      isplitl [HA]; · iexact HA
      iintro ⟨H0, H1, H2, H3, HX, HA⟩
      isplitl [HX HA Hg]
      · isplitl [HX HA]
        · isplitl [HX]; · iexact HX
          iexact HA
        iexact Hg
      isplitl [Ho]; · iexact Ho
      isplitl [H0]; · iexact H0
      isplitl [H1]; · iexact H1
      isplitl [H2]; · iexact H2
      iexists _; iexact H3

theorem defs₀_row (t : Fin cfg0.N) :
    defs₀ (F := F) .tc cfg0.body (cfg0.bodyArgs t (cfg0.slots t)) = bodyAt0 t := by
  unfold defs₀; rw [Defs.onTc_tc]

/-- The body runs at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region is entered with the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and left with what the invariant after the last point gives back. -/
theorem hout (c : Dev nD) : (dats m 0 c).Φ (Fin.last cfg0.N) ⊢ Pipeline.ΦA spec0 c := by
  have hl : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ hl, PhiA_eq]
  iintro ⟨⟨HX, HA⟩, Hg⟩
  isplitl [HX HA]
  · isplitl [HX]
    · iexists _; iexact HX
    iexists _; iexact HA
  iexact Hg

/-! ## The run and the frame -/

set_option backward.isDefEq.respectTransparency.types false in
set_option maxHeartbeats 800000 in
/-- Every run ends with the pipeline's arrays as the proof data computes them, every other buffer as the lines after the region leave
    it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Kernel.Frame.lean ====
/- The frame of the kernel as printed. The idealized program is the same program, line for line, so its frame, proved for floats of
   any kind, is the kernel's. -/
module

public import proofs.«01_k».proof.Proof.KernelIdeal.Frame
public import proofs.«01_k».proof.Proof.Gen.Kernel.Skeleton

@[expose] public section

set_option maxRecDepth 16384

noncomputable section

namespace Cert.Kernel.Run

open Idealize.ShloMosaic Idealize.ShloMosaic.TcCoe
open Cert.Kernel.Gen
open Idealize.SL.Sem

variable {F : FTy → Type} [FloatOps F]

/-- The two programs' body tables agree, label by label. -/
theorem defs₀_eq : Cert.KernelIdeal.defs₀ (F := F) = defs₀ := by
  unfold Cert.KernelIdeal.defs₀ defs₀
  refine congrArg Defs.onTc ?_
  funext l a
  match l, a with
  | ⟨0, _⟩, (t, s) => rfl
  | ⟨_ + 1, h⟩, _ => exact absurd h (Nat.not_lt.2 (Nat.le_add_left _ _))

/-- So do the tables of the bodies and the regions. -/
theorem defs_eq : Cert.KernelIdeal.defs (F := F) = defs :=
  congrArg (Pipeline.defs pcfgs) defs₀_eq

/-- The frame: every run ends, with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  defs_eq (F := F) ▸ Cert.KernelIdeal.Run.frame m ρ

end Cert.Kernel.Run

end
-- ==== Proof.KernelIdeal.Product.lean ====
/- What one chunk's product is over the extended reals: the activations times 128 columns of the weights. -/
module

public import proofs.«01_k».proof.Proof.KernelIdeal.Block
public import Idealize.ShloMosaic.PureOps.Ideal
public import Idealize.ShloMosaic.Lib.MatmulPlain
public import Idealize.ShloMosaic.Lib.BitcastFour
public import Idealize.ShloMosaic.Lib.IdealHost

@[expose] public section

set_option maxRecDepth 16384

noncomputable section

namespace Cert.KernelIdeal.Run

open Cert.KernelIdeal.Gen
open Idealize.ShloMosaic
open Idealize.ShloMosaic.ValueIdx

/-- The activations at a row and a column, as a function of two numbers. -/
def actN (x : Vec Ideal S8x16384 .bf16) (p q : ℕ) : EReal :=
  x (ix2 ⟨p % 8, Nat.mod_lt _ (by decide)⟩ ⟨q % 16384, Nat.mod_lt _ (by decide)⟩)

/-- A weight block at a row and a column, read as a signed number. -/
def blkN (w : Vec Ideal S1024x4096 .i8) (r q : ℕ) : EReal :=
  (((w (ix2 ⟨r % 1024, Nat.mod_lt _ (by decide)⟩ ⟨q % 4096, Nat.mod_lt _ (by decide)⟩) : BitVec 8).toInt : ℝ) : EReal)

/-! ## The bytes -/

/-- Rows read in fours as words, the words transposed, and read as bytes again: byte `4 k + j` of column `r` is row `4 r + j` of
    column `k`. -/
theorem bytes_at (w : S1024x128.Idx → BitVec 8) (p : Fin 512) (r : Fin 256) :
    (bitcast S512x256 8
        (transpose S128x256 [1, 0] (bitcast S256x128 32 w bitcasts_S1024x128_w8_S256x128_w32) transposes_S256x128_p1_0_S128x256)
        bitcasts_S128x256_w32_S512x256_w8) (ix2 p r)
      = w (ix2 ⟨4 * r.val + p.val % 4, by omega⟩ ⟨p.val / 4, by omega⟩) := by
  apply BitVec.eq_of_getLsbD_eq
  intro i hi
  rw [bitcast_getLsbD _ _ _ i hi (by decide)]
  have e1 : (Shape.row (s := S512x256) (ix2 p r) * 8 + i) / 32 = p.val / 4 := by
    show (p.val * 8 + i) / 32 = p.val / 4; omega
  have e2 : (Shape.row (s := S512x256) (ix2 p r) * 8 + i) % 32 = 8 * (p.val % 4) + i := by
    show (p.val * 8 + i) % 32 = _; omega
  rw [e2]
  have ej : (transposes_S256x128_p1_0_S128x256).src (bitcasts_S128x256_w32_S512x256_w8.srcIdx (ix2 p r)
      ((Shape.row (s := S512x256) (ix2 p r) * 8 + i) / 32) (fun a ha =>
          (Nat.div_lt_iff_lt_mul (by decide)).2 (bitcasts_S128x256_w32_S512x256_w8.pos_lt (ix2 p r) i hi a ha)))
        = ix2 r ⟨p.val / 4, by omega⟩ := by
    funext a
    match a with
    | ⟨0, _⟩ => exact Fin.ext (Shape.Bitcasts.srcIdx_other _ _ _ _ ⟨1, Nat.one_lt_two⟩ (by show ¬ 1 + 2 = 2; omega))
    | ⟨1, _⟩ => exact Fin.ext ((Shape.Bitcasts.srcIdx_row _ _ _ _ ⟨0, Nat.zero_lt_two⟩ rfl).trans e1)
  show (bitcast S256x128 32 w bitcasts_S1024x128_w8_S256x128_w32 _).getLsbD _ = _
  rw [ej, bitcast_8_32_getLsbD_ix2 w _ r _ _ (by omega) ⟨4 * r.val + p.val % 4, by omega⟩ (by show _ = _ + (8 * (p.val % 4) + i) / 8; simp only []; omega)]
  have e3 : (8 * (p.val % 4) + i) % 8 = i := by omega
  rw [e3]

/-! ## The sum -/

/-- A sum over four times as many places, all but every fourth of them zero. -/
theorem sum_quads (e : ℕ) (he : e < 4) (u : ℕ → EReal) (v : ℕ → ℕ → EReal) (N : ℕ) :
    ∑ k ∈ Finset.range (4 * N), (if k % 4 = e then u (k / 4) else 0) * v (k % 4) (k / 4) = ∑ q ∈ Finset.range N, u q * v e q := by
  induction N with
  | zero => rfl
  | succ N ih =>
    rw [show 4 * (N + 1) = 4 * N + 1 + 1 + 1 + 1 by omega, Finset.sum_range_succ, Finset.sum_range_succ, Finset.sum_range_succ,
      Finset.sum_range_succ, Finset.sum_range_succ, ih]
    have m0 : (4 * N) % 4 = 0 := by omega
    have m1 : (4 * N + 1) % 4 = 1 := by omega
    have m2 : (4 * N + 1 + 1) % 4 = 2 := by omega
    have m3 : (4 * N + 1 + 1 + 1) % 4 = 3 := by omega
    have d0 : (4 * N) / 4 = N := by omega
    have d1 : (4 * N + 1) / 4 = N := by omega
    have d2 : (4 * N + 1 + 1) / 4 = N := by omega
    have d3 : (4 * N + 1 + 1 + 1) / 4 = N := by omega
    rw [m0, m1, m2, m3, d0, d1, d2, d3]
    interval_cases e <;> simp

/-- The expanded activations over the extended reals. -/
theorem expandAll_at (x : Vec Ideal S8x16384 .bf16) (p : Fin 32) (k : Fin 65536) :
    expandAll x (ix2 p k) = if k.val % 4 = p.val / 8 then actN x p.val (k.val / 4) else 0 := by
  show (if k.val % 4 = p.val / 8 then x _ else Ideal.ofBits .f32 0x00000000#32) = _
  rw [Ideal.ofBits_zero_f32]
  refine ite_congr rfl (fun _ => congrArg x (funext fun a => ?_)) fun _ => rfl
  match a with
  | ⟨0, _⟩ => rfl
  | ⟨1, _⟩ => exact Fin.ext (by show k.val / 4 = k.val / 4 % 16384; omega)

/-- One chunk's product: row `p`, column `r` is row `p % 8` of the activations against row `4 r + p / 8` of the weights, over the
    chunk's 128 columns. -/
theorem chunkDot_at (x : Vec Ideal S8x16384 .bf16) (w : Vec Ideal S1024x4096 .i8) (n a : ℕ) (hn : n + 128 ≤ 16384) (p : Fin 32) (r : Fin 256) :
    chunkDot (xCols (expandAll x) (4 * n)) (wCols w a) (ix2 p r)
      = ∑ q ∈ Finset.range 128, actN x p.val (n + q) * blkN w (4 * r.val + p.val / 8) (a + q) := by
  rw [← sum_quads (p.val / 8) (by omega) (fun q => actN x p.val (n + q)) (fun j q => blkN w (4 * r.val + j) (a + q)) 128]
  refine (Ideal.matmul_plain_apply (M := 32) (K := 512) (N := 256) none (xCols (expandAll x) (4 * n)) _ (constant S32x256 .f32 0x00000000#32) p r).trans ?_
  rw [show constant (F := Ideal) S32x256 .f32 0x00000000#32 (ix2 p r) = 0 from Ideal.ofBits_zero_f32, zero_add, Finset.sum_range]
  refine Finset.sum_congr rfl fun k _ => congrArg₂ (· * ·) ?_ ?_
  · show expandAll x (ix2 p ⟨(4 * n + k.val) % 65536, _⟩) = _
    rw [expandAll_at]
    have e1 : (4 * n + k.val) % 65536 % 4 = k.val % 4 := by omega
    have e2 : (4 * n + k.val) % 65536 / 4 = n + k.val / 4 := by omega
    simp only [e1, e2]
  · refine (congrArg (fun b : BitVec 8 => ((b.toInt : ℝ) : EReal)) (bytes_at (wCols w a) k r)).trans ?_
    refine congrArg (fun b : BitVec 8 => ((b.toInt : ℝ) : EReal)) (congrArg w (funext fun b => ?_))
    match b with
    | ⟨0, _⟩ => exact Fin.ext (by show 4 * r.val + k.val % 4 = (4 * r.val + k.val % 4) % 1024; omega)
    | ⟨1, _⟩ => rfl

/-! ## A point's 32 chunks -/

/-- The products of the first `n` chunks: the activations against the weight block's first `128 n` columns. -/
theorem dots_at (i : grid0.Coords) (x : Vec Ideal S8x16384 .bf16) (w : Vec Ideal S1024x4096 .i8) (p : Fin 32) (r : Fin 256) (n : ℕ) (hn : n ≤ 32) :
    dots i w (expandAll x) n (ix2 p r)
      = ∑ q ∈ Finset.range (128 * n), actN x p.val (4096 * (i 1).val + q) * blkN w (4 * r.val + p.val / 8) q := by
  have hi : (i 1).val < 4 := (i 1).isLt
  induction n with
  | zero => exact Ideal.ofBits_zero_f32
  | succ n ih =>
    rw [show 128 * (n + 1) = 128 * n + 128 by omega, Finset.sum_range_add, ← ih (by omega)]
    show dots i w (expandAll x) n (ix2 p r) + chunkDot (xCols (expandAll x) (xOff i n)) (wCols w (128 * n)) (ix2 p r) = _
    rw [show xOff i n = 4 * (4096 * (i 1).val + 128 * n) from (xOff_eq i ⟨n, by omega⟩).trans (by simp only []; omega),
      chunkDot_at x w _ _ (by omega)]
    simp only [Nat.add_assoc]

/-- The accumulator after a point: what it was, and the activations against the point's weight block. -/
theorem accum_at (i : grid0.Coords) (xa : Vec Ideal S32x256 .f32) (x : Vec Ideal S8x16384 .bf16) (w : Vec Ideal S1024x4096 .i8) (p : Fin 32) (r : Fin 256) :
    accum i xa w (expandAll x) (ix2 p r)
      = xa (ix2 p r) + ∑ q ∈ Finset.range 4096, actN x p.val (4096 * (i 1).val + q) * blkN w (4 * r.val + p.val / 8) q :=
  congrArg (xa (ix2 p r) + ·) (dots_at i x w p r 32 (Nat.le_refl _))

/-- The cleared accumulator is zero. -/
theorem cleared_at (y : S32x256.Idx) : cleared (F := Ideal) y = 0 := Ideal.ofBits_zero_f32

end Cert.KernelIdeal.Run

end
-- ==== Proof.KernelIdeal.Array.lean ====
/- What the output array holds when the grid has run, over the extended reals. -/
module

public import proofs.«01_k».proof.Proof.KernelIdeal.Product
public import proofs.«01_k».proof.Proof.KernelIdeal.Frame
public import Idealize.ShloMosaic.Lib.Pipeline.Value

@[expose] public section

set_option maxRecDepth 16384

noncomputable section

namespace Cert.KernelIdeal.Run

open Cert.KernelIdeal.Gen
open Idealize.ShloMosaic Idealize.ShloMosaic.TcCoe
open Idealize.ShloMosaic.ValueIdx
open Idealize.ShloMosaic.Pipeline (Dat Cfg Window)

/-- The weights at a row and a column, read as a signed number, as a function of two numbers. -/
def wgtN (w : Vec Ideal S8192x16384 .i8) (r q : ℕ) : EReal :=
  (((w (ix2 ⟨r % 8192, Nat.mod_lt _ (by decide)⟩ ⟨q % 16384, Nat.mod_lt _ (by decide)⟩) : BitVec 8).toInt : ℝ) : EReal)

/-- The linear layer: row `b` of the activations against row `n` of the weights, times the scale of row `n`. -/
def linear (x : Vec Ideal S8x16384 .bf16) (w : Vec Ideal S8192x16384 .i8) (s : Vec Ideal S1x8192 .f32) : Vec Ideal S8x8192 .bf16 := fun y =>
  ((∑ q ∈ Finset.range 16384, actN x (y 0).val q * wgtN w (y 1).val q : EReal) * s (ix2 0 (y 1)) : EReal)

/-- The linear layer of the arguments as given: the activations and the scales reshaped to matrices, the output reshaped back. -/
def result (x : Vec Ideal S8x1x16384 .bf16) (w : Vec Ideal S8192x16384 .i8) (s : Vec Ideal S8192 .f32) : Vec Ideal S8x1x8192 .bf16 :=
  shapeCast S8x1x8192 (linear (shapeCast S8x16384 x shapeCasts_S8x1x16384_S8x16384) w (shapeCast S1x8192 s shapeCasts_S8192_S1x8192)) shapeCasts_S8x8192_S8x1x8192

variable (m : (ℓ : Loc nD τ sig) → Buf (Elt Ideal) ℓ)

/-! ## The blocks the points read -/

/-- Every point's block of the activations is all of them. -/
theorem act_block (c : Dev nD) (t : Fin cfg0.N) : (iblk m c 0 t : Vec Ideal S8x16384 .bf16) = V m c main_v0 := by
  have hi : ∀ t : Fin cfg0.N, win0_0.index t 0 = 0 ∧ win0_0.index t 1 = 0 := by decide +kernel
  funext y
  unfold iblk
  rw [View.read_apply]
  refine congrArg (V m c main_v0) (funext fun a => Fin.ext ?_)
  match a with
  | ⟨0, _⟩ => show win0_0.index t 0 * 8 + 1 * (y 0).val = (y 0).val; rw [(hi t).1]; omega
  | ⟨1, _⟩ => show win0_0.index t 1 * 16384 + 1 * (y 1).val = (y 1).val; rw [(hi t).2]; omega

/-- Point `t`'s weight block starts at row `1024 (t / 4)` and column `4096 (t % 4)`. -/
theorem wgt_block (c : Dev nD) (t : Fin cfg0.N) (r q : ℕ) (hr : r < 1024) (hq : q < 4096) :
    blkN (iblk m c 1 t) r q = wgtN (V m c main_arg1) (1024 * (t.val / 4) + r) (4096 * (t.val % 4) + q) := by
  have hi : ∀ t : Fin cfg0.N, win0_1.index t 0 = t.val / 4 ∧ win0_1.index t 1 = t.val % 4 := by decide +kernel
  have ht : t.val < 32 := Nat.lt_of_lt_of_eq t.isLt N_0
  unfold blkN wgtN
  refine congrArg (fun b : BitVec 8 => ((b.toInt : ℝ) : EReal)) ?_
  unfold iblk
  rw [View.read_apply]
  refine congrArg (V m c main_arg1) (funext fun a => Fin.ext ?_)
  match a with
  | ⟨0, _⟩ => show win0_1.index t 0 * 1024 + 1 * (r % 1024) = (1024 * (t.val / 4) + r) % 8192; rw [(hi t).1]; omega
  | ⟨1, _⟩ => show win0_1.index t 1 * 4096 + 1 * (q % 4096) = (4096 * (t.val % 4) + q) % 16384; rw [(hi t).2]; omega

/-- Point `t`'s scales start at `1024 (t / 4)`. -/
theorem scale_block (c : Dev nD) (t : Fin cfg0.N) (n : Fin 1024) (k : Fin 8192) (hk : k.val = 1024 * (t.val / 4) + n.val) :
    (iblk m c 2 t : Vec Ideal S1x1024 .f32) (ix2 0 n) = V m c main_v1 (ix2 0 k) := by
  have hi : ∀ t : Fin cfg0.N, win0_2.index t 0 = 0 ∧ win0_2.index t 1 = t.val / 4 := by decide +kernel
  unfold iblk
  rw [View.read_apply]
  refine congrArg (V m c main_v1) (funext fun a => Fin.ext ?_)
  match a with
  | ⟨0, _⟩ => show win0_2.index t 0 * 1 + 1 * 0 = 0; rw [(hi t).1]
  | ⟨1, _⟩ => show win0_2.index t 1 * 1024 + 1 * n.val = k.val; rw [(hi t).2, hk]; omega

/-! ## The accumulator -/

/-- What a point adds to the accumulator, in the arrays' rows and columns. -/
theorem point_sum (c : Dev nD) (t : Fin cfg0.N) (xa : Vec Ideal S32x256 .f32) (p : Fin 32) (r : Fin 256) :
    accum (grid0.coords t) xa (iblk m c 1 t) (xeAt m c) (ix2 p r)
      = xa (ix2 p r) + ∑ q ∈ Finset.range 4096, actN (V m c main_v0) p.val (4096 * (t.val % 4) + q)
          * wgtN (V m c main_arg1) (1024 * (t.val / 4) + (4 * r.val + p.val / 8)) (4096 * (t.val % 4) + q) := by
  have e1 : (grid0.coords t 1).val = t.val % 4 :=
    (Pipeline.Grid.coords_val t 1 (by decide) rfl : (grid0.coords t 1).val = t.val / 1 % 4).trans (by rw [Nat.div_one])
  unfold xeAt
  rw [act_block, accum_at, e1]
  refine congrArg (xa (ix2 p r) + ·) (Finset.sum_congr rfl fun q hq => ?_)
  rw [wgt_block m c t _ q (by omega) (Finset.mem_range.mp hq)]

/-- After point `t` the accumulator holds the products over the first `4096 (t % 4 + 1)` columns. -/
theorem accAt_at (c : Dev nD) (p : Fin 32) (r : Fin 256) : ∀ (n : ℕ) (h : n < cfg0.N),
    accAt m c n h (ix2 p r) = ∑ q ∈ Finset.range (4096 * (n % 4 + 1)), actN (V m c main_v0) p.val q
      * wgtN (V m c main_arg1) (1024 * (n / 4) + (4 * r.val + p.val / 8)) q := by
  intro n
  induction n with
  | zero =>
    intro h
    rw [accAt_clear m c ⟨0, h⟩ rfl, point_sum, cleared_at, zero_add]
    exact Finset.sum_congr rfl fun q _ => by rw [show 4096 * (0 % 4) + q = q by omega]
  | succ n ih =>
    intro h
    by_cases hz : (n + 1) % 4 = 0
    · rw [accAt_clear m c ⟨n + 1, h⟩ hz, point_sum, cleared_at, zero_add]
      simp only [hz, Nat.mul_zero, Nat.zero_add, Nat.mul_one]
    · rw [accAt_add m c ⟨n + 1, h⟩ hz (Nat.lt_of_succ_lt h), point_sum]
      simp only [Nat.add_sub_cancel]
      rw [ih, show n / 4 = (n + 1) / 4 by omega, show n % 4 + 1 = (n + 1) % 4 by omega,
        show 4096 * ((n + 1) % 4 + 1) = 4096 * ((n + 1) % 4) + 4096 by omega, Finset.sum_range_add]

/-- The activations' rows repeat every eight. -/
theorem actN_row (x : Vec Ideal S8x16384 .bf16) (p p' q : ℕ) (h : p % 8 = p' % 8) : actN x p q = actN x p' q := by
  unfold actN; simp only [h]

/-! ## The array -/

/-- The block a point that writes back stores is the linear layer's. -/
theorem out_block (c : Dev nD) (t : Fin cfg0.N) (h3 : t.val % 4 = 3) (y : S8x1024.Idx) (k : S8x8192.Idx)
    (k0 : (k 0).val = (y 0).val) (k1 : (k 1).val = 1024 * (t.val / 4) + (y 1).val) :
    outBlock (accAt m c t.val t.isLt) (iblk m c 2 t) y = linear (V m c main_v0) (V m c main_arg1) (V m c main_v1) k := by
  have y0 := idx2_lt0 y
  have y1 := idx2_lt1 y
  refine congrArg₂ (fun a b : EReal => a * b) ?_ (scale_block m c t (y 1) (k 1) k1)
  refine (accAt_at m c _ _ t.val t.isLt).trans ?_
  rw [h3]
  refine Finset.sum_congr rfl fun q _ => congrArg₂ (· * ·) (actN_row _ _ _ _ ?_) (congrArg (fun r => wgtN _ r q) ?_)
  · show (8 * ((y 1).val % 4) + (y 0).val) % 8 = (k 0).val % 8; omega
  · show 1024 * (t.val / 4) + (4 * ((y 1).val / 4) + (8 * ((y 1).val % 4) + (y 0).val) / 8) = (k 1).val; omega

/-- Where the output window's block lies. -/
theorem out_index : ∀ t : Fin cfg0.N, win0_3.index t 0 = 0 ∧ win0_3.index t 1 = t.val / 4 := by decide +kernel

/-- What a point writes back is the linear layer, read through the point's block. -/
theorem flushed_eq (c : Dev nD) (t : Fin cfg0.N) (hf : (cfg0.win 3).flush t = true) :
    (dats m 0 c).flushed 3 t = ((cfg0.win 3).blk t).view.read (Elt Ideal) (linear (V m c main_v0) (V m c main_arg1) (V m c main_v1)) := by
  have h3 := (flush0_3 t).mp hf
  show (cfg0.win 3).cut (grid0.coords t) ((dats m 0 c).after 3 t) = _
  rw [after3]
  funext y
  rw [View.read_apply]
  refine out_block m c t h3 _ _ ?_ ?_
  · show win0_3.index t 0 * 8 + 1 * (y 0).val = (y 0).val; rw [(out_index t).1]; omega
  · show win0_3.index t 1 * 1024 + 1 * (y 1).val = 1024 * (t.val / 4) + (y 1).val; rw [(out_index t).2]; omega

/-- When the grid has run the output array holds the linear layer of the arrays the region found. -/
theorem final_out (c : Dev nD) :
    (dats m 0 c).arrAt 3 cfg0.N = linear (V m c main_v0) (V m c main_arg1) (V m c main_v1) :=
  (dats m 0 c).arrAt_eq_of_cover 3 _ (flushed_eq m c) fun i => by
    have h0 : (i 0 : Nat) < 8 := (i 0).isLt
    have h1 : (i 1 : Nat) < 8192 := (i 1).isLt
    have hN : cfg0.N = 32 := N_0
    let t : Fin cfg0.N := ⟨4 * ((i 1).val / 1024) + 3, by omega⟩
    refine ⟨t, (flush0_3 _).mpr (by show (4 * ((i 1).val / 1024) + 3) % 4 = 3; omega), ?_⟩
    show i ∈ ((View.whole main_v2).slice (win0_3.rect t)).set
    rw [View.set_slice_whole, Rect.mem_set_unit]
    intro a
    match a with
    | ⟨0, _⟩ =>
      show win0_3.index t 0 * 8 ≤ (i 0 : Nat) ∧ (i 0 : Nat) < win0_3.index t 0 * 8 + 8
      rw [(out_index t).1]; omega
    | ⟨1, _⟩ =>
      show win0_3.index t 1 * 1024 ≤ (i 1 : Nat) ∧ (i 1 : Nat) < win0_3.index t 1 * 1024 + 1024
      rw [(out_index t).2]; show (4 * ((i 1).val / 1024) + 3) / 4 * 1024 ≤ _ ∧ _ < (4 * ((i 1).val / 1024) + 3) / 4 * 1024 + 1024; omega

end Cert.KernelIdeal.Run

end
-- ==== Proof.KernelIdeal.Result.lean ====
/- The kernel's result, read off its run. -/
module

public import proofs.«01_k».proof.Proof.KernelIdeal.Array
public import Idealize.ShloMosaic.Lib.StableHlo.Run

@[expose] public section

set_option maxRecDepth 16384

noncomputable section

namespace Cert.KernelIdeal.Run

open Cert.KernelIdeal.Gen
open Idealize.ShloMosaic Idealize.ShloMosaic.TcCoe Idealize.SL.Sem
open Idealize.ShloMosaic.Pipeline (Dat Cfg Window)
open Cert.KernelIdeal.Run (result linear)

variable (m : (ℓ : Loc nD τ sig) → Buf (Elt Ideal) ℓ) (ρ : Dev nD → PrngReg)

/-- The activations' array is the activations' argument, reshaped. -/
theorem V_main_v0 (c : Dev nD) :
    V m c main_v0 = shapeCast S8x16384 (m ((c : Thread nD τ).loc main_arg0)) shapeCasts_S8x1x16384_S8x16384 := by
  show StableHlo.after hostOps0 (fun b => m (c, b)) (Proc.devRef .tc main_v0) = _
  simp only [hostOps0, StableHlo.after_cons, StableHlo.after_nil]
  rw [StableHlo.reshape_result_ne _ _ _ _ _ _ _ (by decide), StableHlo.reshape_result]
  rfl

/-- The scales' array is the scales' argument, reshaped. -/
theorem V_main_v1 (c : Dev nD) :
    V m c main_v1 = shapeCast S1x8192 (m ((c : Thread nD τ).loc main_arg2)) shapeCasts_S8192_S1x8192 := by
  show StableHlo.after hostOps0 (fun b => m (c, b)) (Proc.devRef .tc main_v1) = _
  simp only [hostOps0, StableHlo.after_cons, StableHlo.after_nil]
  rw [StableHlo.reshape_result, StableHlo.reshape_result_ne _ _ _ _ _ _ _ (by decide)]
  rfl

/-- The result is the output array, reshaped. -/
theorem W_main_v3 (c : Dev nD) : Pipeline.afterTail₀ cfgs (dats m) 0 (V0 m) [hostOps1] c main_v3
    = shapeCast S8x1x8192 ((dats m 0 c).arrAt 3 cfg0.N) shapeCasts_S8x8192_S8x1x8192 := by
  unfold Pipeline.afterTail₀
  show StableHlo.after hostOps1 _ (Proc.devRef .tc main_v3) = _
  simp only [hostOps1, StableHlo.after_cons, StableHlo.after_nil]
  rw [StableHlo.reshape_result]
  exact congrArg (fun b => shapeCast S8x1x8192 b shapeCasts_S8x8192_S8x1x8192)
    (Pipeline.withArrays_arr spec0 (by decide) c (V0 m c) (fun w => (dats m 0 c).arrAt w cfg0.N) 3)

/-- The run: the result is the linear layer of the arguments, and the arguments end as they began. -/
theorem run_value : θ_run defs (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (by
        rw [W_main_v3, final_out, V_main_v0, V_main_arg1, V_main_v1]; rfl),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.ReferenceIdeal.Array.lean ====
/- What the reference computes: its output array is the linear layer of the arrays it reads. -/
module

public import proofs.«01_k».proof.Proof.KernelIdeal.Array
public import proofs.«01_k».proof.Proof.Gen.ReferenceIdeal.Frame
public import Idealize.ShloMosaic.Lib.Pipeline.Value
public import Idealize.ShloMosaic.Lib.MatmulPlain

@[expose] public section

set_option maxRecDepth 16384

noncomputable section

namespace Cert.ReferenceIdeal.Run

open Cert.ReferenceIdeal.Gen
open Idealize.ShloMosaic Idealize.ShloMosaic.TcCoe
open Idealize.ShloMosaic.ValueIdx
open Idealize.ShloMosaic.Pipeline (Dat Cfg Window)
open Cert.KernelIdeal.Run (linear actN wgtN)

/-- The reference's one computation is the linear layer. -/
theorem pay_eq (w : Vec Ideal S8192x16384 .i8) (x : Vec Ideal S8x16384 .bf16) (s : Vec Ideal S1x8192 .f32) :
    k0_pay1 w x s = linear x w s := by
  funext y
  obtain ⟨p, r, rfl⟩ : ∃ (p : Fin 8) (r : Fin 8192), y = ix2 p r := ⟨y 0, y 1, funext fun a => by fin_cases a <;> rfl⟩
  unfold k0_pay1
  simp only [shapeCast_self]
  refine congrArg₂ (fun a b : EReal => a * b) ?_ (congrArg s (funext fun a => ?_))
  · refine (Ideal.matmul_transposedRhs_apply (M := 8) (K := 16384) (N := 8192) none x (sitofp .bf16 w) (constant S8x8192 .f32 0x00000000#32) p r).trans ?_
    rw [show constant (F := Ideal) S8x8192 .f32 0x00000000#32 (ix2 p r) = 0 from Ideal.ofBits_zero_f32, zero_add, Finset.sum_range]
    refine Finset.sum_congr rfl fun k _ => congrArg₂ (· * ·) (congrArg x (funext fun a => ?_))
      (congrArg (fun b : BitVec 8 => ((b.toInt : ℝ) : EReal)) (congrArg w (funext fun a => ?_)))
    · match a with
      | ⟨0, _⟩ => exact Fin.ext (by show p.val = p.val % 8; omega)
      | ⟨1, _⟩ => exact Fin.ext (by show k.val = k.val % 16384; omega)
    · match a with
      | ⟨0, _⟩ => exact Fin.ext (by show r.val = r.val % 8192; omega)
      | ⟨1, _⟩ => exact Fin.ext (by show k.val = k.val % 16384; omega)
  · match a with
    | ⟨0, _⟩ => exact Fin.ext (by show _ = 0; rfl)
    | ⟨1, _⟩ => rfl

variable (m : (ℓ : Loc nD τ sig) → Buf (Elt Ideal) ℓ)

/-- The one grid point. -/
def t₀ : Fin cfg0.N := ⟨0, by decide⟩

/-- The whole-buffer loads read the buffers and the one covering store leaves what was computed. -/
theorem out_eq (x : Vec Ideal S8x16384 .bf16) (w : Vec Ideal S8192x16384 .i8) (s : Vec Ideal S1x8192 .f32) :
    out0_3 x w s = k0_pay1 w x s := by
  have hz : (![0, 0] : Fin 2 → Nat) = fun _ => 0 := funext fun a => by fin_cases a <;> rfl
  unfold out0_3
  rw [View.canon_unit_zero hz, View.ld_unit_zero (S := S8x16384) hz, View.ld_unit_zero (S := S8192x16384) hz, View.ld_unit_zero (S := S1x8192) hz]

/-- The output array, read through its one block, is what the one point wrote. -/
theorem final_read (c : Dev nD) :
    ((cfg0.win (3 : Fin 4)).blk t₀).view.read (Elt Ideal) ((dats m 0 c).arrAt (3 : Fin 4) cfg0.N) = (dats m 0 c).flushed (3 : Fin 4) t₀ := by
  rw [show cfg0.N = (t₀ : Fin cfg0.N).val + 1 from rfl, (dats m 0 c).arrAt_succ (3 : Fin 4) t₀]
  rw [show (cfg0.win (3 : Fin 4)).flush t₀ = true from by decide, if_pos rfl]
  exact View.read_write_univ _ _

/-- When the reference has run its output array holds the linear layer of the arrays the region found. -/
theorem final_out (c : Dev nD) :
    (dats m 0 c).arrAt 3 cfg0.N = linear (V m c main_v0) (V m c main_arg1) (V m c main_v1) := by
  have ho := final_read m c
  have hz3 : (fun a => (win0_3.index t₀) a * main_v2.ty.shape.size a) = fun _ => 0 := funext fun a => by fin_cases a <;> decide
  have hr3 := fun f => Memref.read_access_unit_zero (Elt Ideal) main_v2 hz3 (fun a => by fin_cases a <;> decide) f
  have hz0 : (fun a => (win0_0.index t₀) a * main_v0.ty.shape.size a) = fun _ => 0 := funext fun a => by fin_cases a <;> decide
  have hr0 := fun f => Memref.read_access_unit_zero (Elt Ideal) main_v0 hz0 (fun a => by fin_cases a <;> decide) f
  have hz1 : (fun a => (win0_1.index t₀) a * main_arg1.ty.shape.size a) = fun _ => 0 := funext fun a => by fin_cases a <;> decide
  have hr1 := fun f => Memref.read_access_unit_zero (Elt Ideal) main_arg1 hz1 (fun a => by fin_cases a <;> decide) f
  have hz2 : (fun a => (win0_2.index t₀) a * main_v1.ty.shape.size a) = fun _ => 0 := funext fun a => by fin_cases a <;> decide
  have hr2 := fun f => Memref.read_access_unit_zero (Elt Ideal) main_v1 hz2 (fun a => by fin_cases a <;> decide) f
  rw [hr3] at ho
  rw [ho]
  show (cfg0.win (3 : Fin 4)).cut _ ((dats m 0 c).after 3 t₀) = _
  rw [after0_3, out_eq, pay_eq]
  unfold iblk
  rw [hr0, hr1, hr2]
  rfl

end Cert.ReferenceIdeal.Run

end
-- ==== Proof.ReferenceIdeal.Result.lean ====
/- The reference's result, read off its run. -/
module

public import proofs.«01_k».proof.Proof.ReferenceIdeal.Array
public import Idealize.ShloMosaic.Lib.StableHlo.Run

@[expose] public section

set_option maxRecDepth 16384

noncomputable section

namespace Cert.ReferenceIdeal.Run

open Cert.ReferenceIdeal.Gen
open Idealize.ShloMosaic Idealize.ShloMosaic.TcCoe Idealize.SL.Sem
open Idealize.ShloMosaic.Pipeline (Dat Cfg Window)
open Cert.KernelIdeal.Run (result linear)

variable (m : (ℓ : Loc nD τ sig) → Buf (Elt Ideal) ℓ) (ρ : Dev nD → PrngReg)

/-- The activations' array is the activations' argument, reshaped. -/
theorem V_main_v0 (c : Dev nD) :
    V m c main_v0 = shapeCast S8x16384 (m ((c : Thread nD τ).loc main_arg0)) shapeCasts_S8x1x16384_S8x16384 := by
  show StableHlo.after hostOps0 (fun b => m (c, b)) (Proc.devRef .tc main_v0) = _
  simp only [hostOps0, StableHlo.after_cons, StableHlo.after_nil]
  rw [StableHlo.reshape_result_ne _ _ _ _ _ _ _ (by decide), StableHlo.reshape_result]
  rfl

/-- The scales' array is the scales' argument, reshaped. -/
theorem V_main_v1 (c : Dev nD) :
    V m c main_v1 = shapeCast S1x8192 (m ((c : Thread nD τ).loc main_arg2)) shapeCasts_S8192_S1x8192 := by
  show StableHlo.after hostOps0 (fun b => m (c, b)) (Proc.devRef .tc main_v1) = _
  simp only [hostOps0, StableHlo.after_cons, StableHlo.after_nil]
  rw [StableHlo.reshape_result, StableHlo.reshape_result_ne _ _ _ _ _ _ _ (by decide)]
  rfl

/-- The result is the output array, reshaped. -/
theorem W_main_v3 (c : Dev nD) : Pipeline.afterTail₀ cfgs (dats m) 0 (V0 m) [hostOps1] c main_v3
    = shapeCast S8x1x8192 ((dats m 0 c).arrAt 3 cfg0.N) shapeCasts_S8x8192_S8x1x8192 := by
  unfold Pipeline.afterTail₀
  show StableHlo.after hostOps1 _ (Proc.devRef .tc main_v3) = _
  simp only [hostOps1, StableHlo.after_cons, StableHlo.after_nil]
  rw [StableHlo.reshape_result]
  exact congrArg (fun b => shapeCast S8x1x8192 b shapeCasts_S8x8192_S8x1x8192)
    (Pipeline.withArrays_arr spec0 (by decide) c (V0 m c) (fun w => (dats m 0 c).arrAt w cfg0.N) 3)

/-- The run: the result is the linear layer of the arguments, and the arguments end as they began. -/
theorem run_value : θ_run defs (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (by
        rw [W_main_v3, final_out, V_main_v0, V_main_arg1, V_main_v1]; rfl),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.Run

end
-- ==== Proof.lean ====
/- The certificate's proof: the three frames, the unchanged idealization, and the equation. -/
module

public import proofs.«01_k».proof.Defs
public import proofs.«01_k».proof.Proof.Kernel.Frame
public import proofs.«01_k».proof.Proof.KernelIdeal.Result
public import proofs.«01_k».proof.Proof.ReferenceIdeal.Result
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The equation: from launches that agree on the arguments the idealized kernel and the idealized reference both end with the
    linear layer of the arguments in their result, and with the arguments as they were. -/
theorem algebraic : Cert.algebraic_KernelIdeal_ReferenceIdeal := by
  intro m g m' g' _ hag
  refine ⟨fun c => Cert.KernelIdeal.Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run_value m g, (θ_run _ _ _).mono (fun r h c => ?_) (Cert.ReferenceIdeal.Run.run_value m' g')⟩
  refine ⟨(h c).1.trans ?_, (h c).2⟩
  rw [(hag c).1, (hag c).2.1, (hag c).2.2]

/-- Every claim of the certificate. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Gen.frame m ρ,
  trivial, algebraic⟩

end Cert.Proof

end
